-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_InMem (m : (ℓ : Loc Cert.InMem.nD Cert.InMem.τ Cert.InMem.sig) → Buf (Elt Bits) ℓ) : Prop :=
  True

def Pre_InMemIdeal (m : (ℓ : Loc Cert.InMemIdeal.nD Cert.InMemIdeal.τ Cert.InMemIdeal.sig) → Buf (Elt Ideal) ℓ) : Prop :=
  True

def Pre_InMemRefIdeal (m : (ℓ : Loc Cert.InMemRefIdeal.nD Cert.InMemRefIdeal.τ Cert.InMemRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Combine [hPre_positions_in_range : Cert.Pre_positions_in_range.Facts] (m : (ℓ : Loc Cert.Combine.nD Cert.Combine.τ Cert.Combine.sig) → Buf (Elt Bits) ℓ) : Prop :=
  ∀ c : Dev Cert.Combine.nD,
    (Cert.Pre_positions_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5))) = (fun _ => 1#1)

def Pre_CombineIdeal [hPre_positions_in_range : Cert.Pre_positions_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_positions_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5))) = (fun _ => 1#1)

def Pre_CombineRefIdeal [hPre_positions_in_range : Cert.Pre_positions_in_range.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_positions_in_range.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1))
      ∧ r.2.sem = fun _ => 0)

def quiescent_InMem [hInMem : Cert.InMem.Facts] : Prop :=
  ∀ (m : (ℓ : Loc Cert.InMem.nD Cert.InMem.τ Cert.InMem.sig) → Buf (Elt Bits) ℓ) (g : Dev Cert.InMem.nD → PrngReg), Pre_InMem m →
    θ_run (Cert.InMem.defs (F := Bits)) (onTc (τ := Cert.InMem.τ) (Cert.InMem.main (F := Bits))) ⟨m, fun _ => 0, g⟩ (fun r => (∀ c : Dev Cert.InMem.nD,
      r.2.mem ((c.tc : Thread Cert.InMem.nD Cert.InMem.τ).loc Cert.InMem.main_arg0) = m ((c.tc : Thread Cert.InMem.nD Cert.InMem.τ).loc Cert.InMem.main_arg0)
      ∧ r.2.mem ((c.tc : Thread Cert.InMem.nD Cert.InMem.τ).loc Cert.InMem.main_arg1) = m ((c.tc : Thread Cert.InMem.nD Cert.InMem.τ).loc Cert.InMem.main_arg1)
      ∧ r.2.mem ((c.tc : Thread Cert.InMem.nD Cert.InMem.τ).loc Cert.InMem.main_arg2) = m ((c.tc : Thread Cert.InMem.nD Cert.InMem.τ).loc Cert.InMem.main_arg2))
      ∧ r.2.sem = fun _ => 0)

def quiescent_InMemIdeal [hInMemIdeal : Cert.InMemIdeal.Facts] : Prop :=
  ∀ (m : (ℓ : Loc Cert.InMemIdeal.nD Cert.InMemIdeal.τ Cert.InMemIdeal.sig) → Buf (Elt Ideal) ℓ) (g : Dev Cert.InMemIdeal.nD → PrngReg), Pre_InMemIdeal m →
    θ_run (Cert.InMemIdeal.defs (F := Ideal)) (onTc (τ := Cert.InMemIdeal.τ) (Cert.InMemIdeal.main (F := Ideal))) ⟨m, fun _ => 0, g⟩ (fun r => (∀ c : Dev Cert.InMemIdeal.nD,
      r.2.mem ((c.tc : Thread Cert.InMemIdeal.nD Cert.InMemIdeal.τ).loc Cert.InMemIdeal.main_arg0) = m ((c.tc : Thread Cert.InMemIdeal.nD Cert.InMemIdeal.τ).loc Cert.InMemIdeal.main_arg0)
      ∧ r.2.mem ((c.tc : Thread Cert.InMemIdeal.nD Cert.InMemIdeal.τ).loc Cert.InMemIdeal.main_arg1) = m ((c.tc : Thread Cert.InMemIdeal.nD Cert.InMemIdeal.τ).loc Cert.InMemIdeal.main_arg1)
      ∧ r.2.mem ((c.tc : Thread Cert.InMemIdeal.nD Cert.InMemIdeal.τ).loc Cert.InMemIdeal.main_arg2) = m ((c.tc : Thread Cert.InMemIdeal.nD Cert.InMemIdeal.τ).loc Cert.InMemIdeal.main_arg2))
      ∧ r.2.sem = fun _ => 0)

def quiescent_InMemRefIdeal [hInMemRefIdeal : Cert.InMemRefIdeal.Facts] : Prop :=
  ∀ (m : (ℓ : Loc Cert.InMemRefIdeal.nD Cert.InMemRefIdeal.τ Cert.InMemRefIdeal.sig) → Buf (Elt Ideal) ℓ) (g : Dev Cert.InMemRefIdeal.nD → PrngReg), Pre_InMemRefIdeal m →
    θ_run (Cert.InMemRefIdeal.defs (F := Ideal)) (onTc (τ := Cert.InMemRefIdeal.τ) (Cert.InMemRefIdeal.main (F := Ideal))) ⟨m, fun _ => 0, g⟩ (fun r => (∀ c : Dev Cert.InMemRefIdeal.nD,
      r.2.mem ((c.tc : Thread Cert.InMemRefIdeal.nD Cert.InMemRefIdeal.τ).loc Cert.InMemRefIdeal.main_arg0) = m ((c.tc : Thread Cert.InMemRefIdeal.nD Cert.InMemRefIdeal.τ).loc Cert.InMemRefIdeal.main_arg0)
      ∧ r.2.mem ((c.tc : Thread Cert.InMemRefIdeal.nD Cert.InMemRefIdeal.τ).loc Cert.InMemRefIdeal.main_arg1) = m ((c.tc : Thread Cert.InMemRefIdeal.nD Cert.InMemRefIdeal.τ).loc Cert.InMemRefIdeal.main_arg1)
      ∧ r.2.mem ((c.tc : Thread Cert.InMemRefIdeal.nD Cert.InMemRefIdeal.τ).loc Cert.InMemRefIdeal.main_arg2) = m ((c.tc : Thread Cert.InMemRefIdeal.nD Cert.InMemRefIdeal.τ).loc Cert.InMemRefIdeal.main_arg2))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4)
      ∧ r.2.mem ((c.tc : Thread Cert.OutEvenRefIdeal.nD Cert.OutEvenRefIdeal.τ).loc Cert.OutEvenRefIdeal.main_arg5) = m ((c.tc : Thread Cert.OutEvenRefIdeal.nD Cert.OutEvenRefIdeal.τ).loc Cert.OutEvenRefIdeal.main_arg5))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3)
      ∧ r.2.mem ((c.tc : Thread Cert.OutOddRefIdeal.nD Cert.OutOddRefIdeal.τ).loc Cert.OutOddRefIdeal.main_arg4) = m ((c.tc : Thread Cert.OutOddRefIdeal.nD Cert.OutOddRefIdeal.τ).loc Cert.OutOddRefIdeal.main_arg4))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Combine [hCombine : Cert.Combine.Facts] [hPre_positions_in_range : Cert.Pre_positions_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] [hPre_positions_in_range : Cert.Pre_positions_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] [hPre_positions_in_range : Cert.Pre_positions_in_range.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)) →
    ∃ (v0 : (c : Dev Cert.InEvenIdeal.nD) → Buf (Elt Ideal) ((c.tc : Thread Cert.InEvenIdeal.nD Cert.InEvenIdeal.τ).loc Cert.InEvenIdeal.main_v1)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v1) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v0) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v1)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v1) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v0) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1))

def preserves_InMem_InMemIdeal : Prop :=
  True

def algebraic_InMemIdeal_InMemRefIdeal [hInMemIdeal : Cert.InMemIdeal.Facts] [hInMemRefIdeal : Cert.InMemRefIdeal.Facts] : Prop :=
  ∀ (m : (ℓ : Loc Cert.InMemIdeal.nD Cert.InMemIdeal.τ Cert.InMemIdeal.sig) → Buf (Elt Ideal) ℓ) (g : Dev Cert.InMemIdeal.nD → PrngReg)
    (m' : (ℓ : Loc Cert.InMemRefIdeal.nD Cert.InMemRefIdeal.τ Cert.InMemRefIdeal.sig) → Buf (Elt Ideal) ℓ) (g' : Dev Cert.InMemRefIdeal.nD → PrngReg), Pre_InMemIdeal m →
    (∀ c : Dev Cert.InMemIdeal.nD,
      m' ((c.tc : Thread Cert.InMemRefIdeal.nD Cert.InMemRefIdeal.τ).loc Cert.InMemRefIdeal.main_arg0) = m ((c.tc : Thread Cert.InMemIdeal.nD Cert.InMemIdeal.τ).loc Cert.InMemIdeal.main_arg0)
      ∧ m' ((c.tc : Thread Cert.InMemRefIdeal.nD Cert.InMemRefIdeal.τ).loc Cert.InMemRefIdeal.main_arg1) = m ((c.tc : Thread Cert.InMemIdeal.nD Cert.InMemIdeal.τ).loc Cert.InMemIdeal.main_arg1)
      ∧ m' ((c.tc : Thread Cert.InMemRefIdeal.nD Cert.InMemRefIdeal.τ).loc Cert.InMemRefIdeal.main_arg2) = m ((c.tc : Thread Cert.InMemIdeal.nD Cert.InMemIdeal.τ).loc Cert.InMemIdeal.main_arg2)) →
    ∃ (v0 : (c : Dev Cert.InMemIdeal.nD) → Buf (Elt Ideal) ((c.tc : Thread Cert.InMemIdeal.nD Cert.InMemIdeal.τ).loc Cert.InMemIdeal.main_v2)),
      θ_run (Cert.InMemIdeal.defs (F := Ideal)) (onTc (τ := Cert.InMemIdeal.τ) (Cert.InMemIdeal.main (F := Ideal))) ⟨m, fun _ => 0, g⟩ (fun r => ∀ c : Dev Cert.InMemIdeal.nD,
          r.2.mem ((c.tc : Thread Cert.InMemIdeal.nD Cert.InMemIdeal.τ).loc Cert.InMemIdeal.main_v2) = v0 c
          ∧ r.2.mem ((c.tc : Thread Cert.InMemIdeal.nD Cert.InMemIdeal.τ).loc Cert.InMemIdeal.main_arg0) = m ((c.tc : Thread Cert.InMemIdeal.nD Cert.InMemIdeal.τ).loc Cert.InMemIdeal.main_arg0)
          ∧ r.2.mem ((c.tc : Thread Cert.InMemIdeal.nD Cert.InMemIdeal.τ).loc Cert.InMemIdeal.main_arg1) = m ((c.tc : Thread Cert.InMemIdeal.nD Cert.InMemIdeal.τ).loc Cert.InMemIdeal.main_arg1)
          ∧ r.2.mem ((c.tc : Thread Cert.InMemIdeal.nD Cert.InMemIdeal.τ).loc Cert.InMemIdeal.main_arg2) = m ((c.tc : Thread Cert.InMemIdeal.nD Cert.InMemIdeal.τ).loc Cert.InMemIdeal.main_arg2))
      ∧ θ_run (Cert.InMemRefIdeal.defs (F := Ideal)) (onTc (τ := Cert.InMemRefIdeal.τ) (Cert.InMemRefIdeal.main (F := Ideal))) ⟨m', fun _ => 0, g'⟩ (fun r => ∀ c : Dev Cert.InMemRefIdeal.nD,
          r.2.mem ((c.tc : Thread Cert.InMemRefIdeal.nD Cert.InMemRefIdeal.τ).loc Cert.InMemRefIdeal.main_v2) = v0 c
          ∧ r.2.mem ((c.tc : Thread Cert.InMemRefIdeal.nD Cert.InMemRefIdeal.τ).loc Cert.InMemRefIdeal.main_arg0) = m' ((c.tc : Thread Cert.InMemRefIdeal.nD Cert.InMemRefIdeal.τ).loc Cert.InMemRefIdeal.main_arg0)
          ∧ r.2.mem ((c.tc : Thread Cert.InMemRefIdeal.nD Cert.InMemRefIdeal.τ).loc Cert.InMemRefIdeal.main_arg1) = m' ((c.tc : Thread Cert.InMemRefIdeal.nD Cert.InMemRefIdeal.τ).loc Cert.InMemRefIdeal.main_arg1)
          ∧ r.2.mem ((c.tc : Thread Cert.InMemRefIdeal.nD Cert.InMemRefIdeal.τ).loc Cert.InMemRefIdeal.main_arg2) = m' ((c.tc : Thread Cert.InMemRefIdeal.nD Cert.InMemRefIdeal.τ).loc Cert.InMemRefIdeal.main_arg2))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)
      ∧ m' ((c.tc : Thread Cert.OutEvenRefIdeal.nD Cert.OutEvenRefIdeal.τ).loc Cert.OutEvenRefIdeal.main_arg5) = m ((c.tc : Thread Cert.OutEvenIdeal.nD Cert.OutEvenIdeal.τ).loc Cert.OutEvenIdeal.main_arg5)) →
    ∃ (v0 : (c : Dev Cert.OutEvenIdeal.nD) → Buf (Elt Ideal) ((c.tc : Thread Cert.OutEvenIdeal.nD Cert.OutEvenIdeal.τ).loc Cert.OutEvenIdeal.main_v5)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v5) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v28) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4)
          ∧ r.2.mem ((c.tc : Thread Cert.OutEvenRefIdeal.nD Cert.OutEvenRefIdeal.τ).loc Cert.OutEvenRefIdeal.main_arg5) = m' ((c.tc : Thread Cert.OutEvenRefIdeal.nD Cert.OutEvenRefIdeal.τ).loc Cert.OutEvenRefIdeal.main_arg5))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)
      ∧ m' ((c.tc : Thread Cert.OutOddRefIdeal.nD Cert.OutOddRefIdeal.τ).loc Cert.OutOddRefIdeal.main_arg4) = m ((c.tc : Thread Cert.OutOddIdeal.nD Cert.OutOddIdeal.τ).loc Cert.OutOddIdeal.main_arg4)) →
    ∃ (v0 : (c : Dev Cert.OutOddIdeal.nD) → Buf (Elt Ideal) ((c.tc : Thread Cert.OutOddIdeal.nD Cert.OutOddIdeal.τ).loc Cert.OutOddIdeal.main_v4)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v4) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v27) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3)
          ∧ r.2.mem ((c.tc : Thread Cert.OutOddRefIdeal.nD Cert.OutOddRefIdeal.τ).loc Cert.OutOddRefIdeal.main_arg4) = m' ((c.tc : Thread Cert.OutOddRefIdeal.nD Cert.OutOddRefIdeal.τ).loc Cert.OutOddRefIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v10)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v10) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v60) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Combine_CombineIdeal : Prop :=
  True

def algebraic_CombineIdeal_CombineRefIdeal [hCombineIdeal : Cert.CombineIdeal.Facts] [hCombineRefIdeal : Cert.CombineRefIdeal.Facts] [hPre_positions_in_range : Cert.Pre_positions_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v3)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v3) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v37) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def Claim : Prop :=
  ∃ (hKernel : Cert.Kernel.Facts) (hKernelIdeal : Cert.KernelIdeal.Facts) (hReferenceIdeal : Cert.ReferenceIdeal.Facts) (hInEven : Cert.InEven.Facts) (hInEvenIdeal : Cert.InEvenIdeal.Facts) (hInEvenRefIdeal : Cert.InEvenRefIdeal.Facts) (hInOdd : Cert.InOdd.Facts) (hInOddIdeal : Cert.InOddIdeal.Facts) (hInOddRefIdeal : Cert.InOddRefIdeal.Facts) (hInMem : Cert.InMem.Facts) (hInMemIdeal : Cert.InMemIdeal.Facts) (hInMemRefIdeal : Cert.InMemRefIdeal.Facts) (hOutEven : Cert.OutEven.Facts) (hOutEvenIdeal : Cert.OutEvenIdeal.Facts) (hOutEvenRefIdeal : Cert.OutEvenRefIdeal.Facts) (hOutOdd : Cert.OutOdd.Facts) (hOutOddIdeal : Cert.OutOddIdeal.Facts) (hOutOddRefIdeal : Cert.OutOddRefIdeal.Facts) (hExperts : Cert.Experts.Facts) (hExpertsIdeal : Cert.ExpertsIdeal.Facts) (hExpertsRefIdeal : Cert.ExpertsRefIdeal.Facts) (hCombine : Cert.Combine.Facts) (hCombineIdeal : Cert.CombineIdeal.Facts) (hCombineRefIdeal : Cert.CombineRefIdeal.Facts) (hPre_experts_in_range : Cert.Pre_experts_in_range.Facts) (hPre_positions_in_range : Cert.Pre_positions_in_range.Facts),
    quiescent_Kernel (hKernel := hKernel)
    ∧ quiescent_KernelIdeal (hKernelIdeal := hKernelIdeal)
    ∧ quiescent_ReferenceIdeal (hReferenceIdeal := hReferenceIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_InMem (hInMem := hInMem)
    ∧ quiescent_InMemIdeal (hInMemIdeal := hInMemIdeal)
    ∧ quiescent_InMemRefIdeal (hInMemRefIdeal := hInMemRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal) (hPre_experts_in_range := hPre_experts_in_range)
    ∧ quiescent_Combine (hCombine := hCombine) (hPre_positions_in_range := hPre_positions_in_range)
    ∧ quiescent_CombineIdeal (hCombineIdeal := hCombineIdeal) (hPre_positions_in_range := hPre_positions_in_range)
    ∧ quiescent_CombineRefIdeal (hCombineRefIdeal := hCombineRefIdeal) (hPre_positions_in_range := hPre_positions_in_range)
    ∧ preserves_Kernel_KernelIdeal
    ∧ algebraic_KernelIdeal_ReferenceIdeal (hKernelIdeal := hKernelIdeal) (hReferenceIdeal := hReferenceIdeal)
    ∧ preserves_InEven_InEvenIdeal
    ∧ algebraic_InEvenIdeal_InEvenRefIdeal (hInEvenIdeal := hInEvenIdeal) (hInEvenRefIdeal := hInEvenRefIdeal)
    ∧ preserves_InOdd_InOddIdeal
    ∧ algebraic_InOddIdeal_InOddRefIdeal (hInOddIdeal := hInOddIdeal) (hInOddRefIdeal := hInOddRefIdeal)
    ∧ preserves_InMem_InMemIdeal
    ∧ algebraic_InMemIdeal_InMemRefIdeal (hInMemIdeal := hInMemIdeal) (hInMemRefIdeal := hInMemRefIdeal)
    ∧ preserves_OutEven_OutEvenIdeal
    ∧ algebraic_OutEvenIdeal_OutEvenRefIdeal (hOutEvenIdeal := hOutEvenIdeal) (hOutEvenRefIdeal := hOutEvenRefIdeal)
    ∧ preserves_OutOdd_OutOddIdeal
    ∧ algebraic_OutOddIdeal_OutOddRefIdeal (hOutOddIdeal := hOutOddIdeal) (hOutOddRefIdeal := hOutOddRefIdeal)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_Combine_CombineIdeal
    ∧ algebraic_CombineIdeal_CombineRefIdeal (hCombineIdeal := hCombineIdeal) (hCombineRefIdeal := hCombineRefIdeal) (hPre_positions_in_range := hPre_positions_in_range)
-- ==== Pre_experts_in_range.lean ====
abbrev S40960x2048 : Shape := ⟨2, ![40960, 2048]⟩
abbrev S160 : Shape := ⟨1, ![160]⟩
abbrev S1 : Shape := ⟨1, ![1]⟩
abbrev S32x2048x2048 : Shape := ⟨3, ![32, 2048, 2048]⟩
abbrev S32x2048 : Shape := ⟨2, ![32, 2048]⟩
abbrev S32x1024x2048 : Shape := ⟨3, ![32, 1024, 2048]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel

variable [Facts]

def fn {F : FTy → Type} [FloatOps F] (main_arg0 : FVec F S40960x2048 .f32) (main_arg1 : IVec S160 32) (main_arg2 : IVec S1 32) (main_arg3 : FVec F S32x2048x2048 .f32) (main_arg4 : FVec F S32x2048 .f32) (main_arg5 : FVec F S32x1024x2048 .f32) (main_arg6 : FVec F S32x2048 .f32) : IVec S_ 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 32#32
  let main_v2 : IVec S160 32 := broadcastInDim S160 ![] bcast_S_S160 main_c_0
  let main_v3 : IVec S160 1 := cmpi .slt main_arg1 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  main_v5
-- ==== Pre_positions_in_range.lean ====
abbrev S40960x2048 : Shape := ⟨2, ![40960, 2048]⟩
abbrev S4x8192 : Shape := ⟨2, ![4, 8192]⟩
abbrev S8192x2048 : Shape := ⟨2, ![8192, 2048]⟩
abbrev S2048 : Shape := ⟨1, ![2048]⟩
abbrev S_ : Shape := ⟨0, ![]⟩

class Facts : Prop where
  bcast_S_S4x8192 : S_.BroadcastsInDim S4x8192 (![] : Fin 0 → Fin S4x8192.rank)
  reducesTo_S4x8192_S_d0_1 : S4x8192.ReducesTo [0, 1] S_
  h_S_ : 0 < S_.numel

variable [Facts]

def fn {F : FTy → Type} [FloatOps F] (main_arg0 : FVec F S40960x2048 .f32) (main_arg1 : IVec S4x8192 32) (main_arg2 : FVec F S4x8192 .f32) (main_arg3 : FVec F S8192x2048 .f32) (main_arg4 : FVec F S2048 .f32) (main_arg5 : FVec F S2048 .f32) : IVec S_ 1 :=
  let main_c : IVec S_ 32 := constantI S_ 32 0#32
  let main_v0 : IVec S4x8192 32 := broadcastInDim S4x8192 ![] bcast_S_S4x8192 main_c
  let main_v1 : IVec S4x8192 1 := cmpi .sge main_arg1 main_v0
  let main_c_0 : IVec S_ 32 := constantI S_ 32 40960#32
  let main_v2 : IVec S4x8192 32 := broadcastInDim S4x8192 ![] bcast_S_S4x8192 main_c_0
  let main_v3 : IVec S4x8192 1 := cmpi .slt main_arg1 main_v2
  let main_v4 : IVec S4x8192 1 := andi main_v1 main_v3
  let main_c_1 : IVec S_ 1 := constantI S_ 1 1#1
  let main_v5 : IVec S_ 1 := (fun x v => Host.reduce IntOp.andi x v reducesTo_S4x8192_S_d0_1 h_S_) main_v4 main_c_1
  main_v5
-- ==== Kernel.lean ====
abbrev S2x4096x2048 : Shape := ⟨3, ![2, 4096, 2048]⟩
abbrev S2x256x4096 : Shape := ⟨3, ![2, 256, 4096]⟩
abbrev S2048x2048 : Shape := ⟨2, ![2048, 2048]⟩
abbrev S2048 : Shape := ⟨1, ![2048]⟩
abbrev S1x2048 : Shape := ⟨2, ![1, 2048]⟩
abbrev S1x256x2048 : Shape := ⟨3, ![1, 256, 2048]⟩
abbrev S256x2048 : Shape := ⟨2, ![256, 2048]⟩
abbrev S256x512 : Shape := ⟨2, ![256, 512]⟩
abbrev S1x256x512 : Shape := ⟨3, ![1, 256, 512]⟩
abbrev S256x256 : Shape := ⟨2, ![256, 256]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2x256x4096, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S2x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S1x256x2048, .f32⟩
  | .local _ .vmem, ⟨11, _⟩ => ⟨S1x256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x4096x2048 : Shape := ⟨3, ![2, 4096, 2048]⟩
abbrev S2x256x4096 : Shape := ⟨3, ![2, 256, 4096]⟩
abbrev S2048x2048 : Shape := ⟨2, ![2048, 2048]⟩
abbrev S2048 : Shape := ⟨1, ![2048]⟩
abbrev S2x4096x4x512 : Shape := ⟨4, ![2, 4096, 4, 512]⟩
abbrev S2x256x2048 : Shape := ⟨3, ![2, 256, 2048]⟩
abbrev S2x256x4x512 : Shape := ⟨4, ![2, 256, 4, 512]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x512x4096 : Shape := ⟨4, ![2, 4, 512, 4096]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x4096, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2x4096x2048, .f32⟩
  | .hbm, ⟨7, _⟩ => ⟨S2x4096x4x512, .f32⟩
  | .hbm, ⟨8, _⟩ => ⟨S2x256x2048, .f32⟩
  | .hbm, ⟨9, _⟩ => ⟨S2x256x4x512, .f32⟩
  | .hbm, ⟨10, _⟩ => ⟨S2x256x2048, .f32⟩
  | .hbm, ⟨11, _⟩ => ⟨S2x256x4x512, .f32⟩
  | .hbm, ⟨12, _⟩ => ⟨S2x4x4096x256, .f32⟩
  | .hbm, ⟨13, _⟩ => ⟨S_, .f32⟩
  | .hbm, ⟨14, _⟩ => ⟨S2x4x4096x256, .f32⟩
  | .hbm, ⟨15, _⟩ => ⟨S2x4x4096x256, .f32⟩
  | .hbm, ⟨16, _⟩ => ⟨S_, .f32⟩
  | .hbm, ⟨17, _⟩ => ⟨S2x4x4096, .f32⟩
  | .hbm, ⟨18, _⟩ => ⟨S_, .f32⟩
  | .hbm, ⟨19, _⟩ => ⟨S2x4x4096, .f32⟩
  | .hbm, ⟨20, _⟩ => ⟨S2x4x4096, .f32⟩
  | .hbm, ⟨21, _⟩ => ⟨S2x4x4096x1, .f32⟩
  | .hbm, ⟨22, _⟩ => ⟨S2x4x4096x256, .f32⟩
  | .hbm, ⟨23, _⟩ => ⟨S2x4x4096x256, .f32⟩
  | .hbm, ⟨24, _⟩ => ⟨S2x4x4096x256, .f32⟩
  | .hbm, ⟨25, _⟩ => ⟨S_, .f32⟩
  | .hbm, ⟨26, _⟩ => ⟨S2x4x4096, .f32⟩
  | .hbm, ⟨27, _⟩ => ⟨S2x4x4096x1, .f32⟩
  | .hbm, ⟨28, _⟩ => ⟨S2x4x4096x256, .f32⟩
  | .hbm, ⟨29, _⟩ => ⟨S2x4x4096x256, .f32⟩
  | .hbm, ⟨30, _⟩ => ⟨S2x4x512x4096, .f32⟩
  | .hbm, ⟨31, _⟩ => ⟨S2x4096x4x512, .f32⟩
  | .hbm, ⟨32, _⟩ => ⟨S2x4096x2048, .f32⟩
  | .hbm, ⟨33, _⟩ => ⟨S_, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S_, .f32⟩
  | .hbm, ⟨39, _⟩ => ⟨S2x4096, .f32⟩
  | .hbm, ⟨40, _⟩ => ⟨S2x4096x1, .f32⟩
  | .hbm, ⟨41, _⟩ => ⟨S_, .f32⟩
  | .hbm, ⟨42, _⟩ => ⟨S2x4096x1, .f32⟩
  | .hbm, ⟨43, _⟩ => ⟨S2x4096x1, .f32⟩
  | .hbm, ⟨44, _⟩ => ⟨S2x4096x2048, .f32⟩
  | .hbm, ⟨45, _⟩ => ⟨S2x4096x2048, .f32⟩
  | .hbm, ⟨46, _⟩ => ⟨S2x4096x2048, .f32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x2048, .f32⟩
  | .hbm, ⟨54, _⟩ => ⟨S2x4096x2048, .f32⟩
  | .hbm, ⟨55, _⟩ => ⟨S_, .f32⟩
  | .hbm, ⟨56, _⟩ => ⟨S2x4096x1, .f32⟩
  | .hbm, ⟨57, _⟩ => ⟨S2x4096x1, .f32⟩
  | .hbm, ⟨58, _⟩ => ⟨S2x4096x1, .f32⟩
  | .hbm, ⟨59, _⟩ => ⟨S2x4096x2048, .f32⟩
  | .hbm, ⟨60, _⟩ => ⟨S2x4096x2048, .f32⟩
  | .hbm, ⟨61, _⟩ => ⟨S1x1x2048, .f32⟩
  | .hbm, ⟨62, _⟩ => ⟨S2x4096x2048, .f32⟩
  | .hbm, ⟨63, _⟩ => ⟨S2x4096x2048, .f32⟩
  | .hbm, ⟨64, _⟩ => ⟨S1x1x2048, .f32⟩
  | .hbm, ⟨65, _⟩ => ⟨S2x4096x2048, .f32⟩
  | .hbm, ⟨66, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== InEven.lean ====
abbrev S8192x2048 : Shape := ⟨2, ![8192, 2048]⟩
abbrev S2048x7440 : Shape := ⟨2, ![2048, 7440]⟩
abbrev S8192x7440 : Shape := ⟨2, ![8192, 7440]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x7440, .f32⟩
  | .hbm, ⟨2, _⟩ => ⟨S2048x7440, .bf16⟩
  | .hbm, ⟨3, _⟩ => ⟨S8192x7440, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenRefIdeal.lean ====
abbrev S8192x2048 : Shape := ⟨2, ![8192, 2048]⟩
abbrev S2048x7440 : Shape := ⟨2, ![2048, 7440]⟩
abbrev S8192x7440 : Shape := ⟨2, ![8192, 7440]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x7440, .f32⟩
  | .hbm, ⟨2, _⟩ => ⟨S8192x7440, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InOdd.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S2048x3072, .bf16⟩
  | .hbm, ⟨3, _⟩ => ⟨S8192x3072, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddRefIdeal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x3072, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InMem.lean ====
abbrev S512x2048 : Shape := ⟨2, ![512, 2048]⟩
abbrev S2048x2048 : Shape := ⟨2, ![2048, 2048]⟩
abbrev S2048x4096 : Shape := ⟨2, ![2048, 4096]⟩
abbrev S512x4096 : Shape := ⟨2, ![512, 4096]⟩
abbrev S2048x512 : Shape := ⟨2, ![2048, 512]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048x2048, .f32⟩
  | .hbm, ⟨3, _⟩ => ⟨S2048x4096, .f32⟩
  | .hbm, ⟨4, _⟩ => ⟨S2048x4096, .bf16⟩
  | .hbm, ⟨5, _⟩ => ⟨S512x4096, .f32⟩
  | .local _ .vmem, ⟨0, _⟩ => ⟨S512x2048, .f32⟩
  | .local _ .vmem, ⟨1, _⟩ => ⟨S2048x512, .bf16⟩
  | .local _ .vmem, ⟨2, _⟩ => ⟨S2048x512, .bf16⟩
  | .local _ .vmem, ⟨3, _⟩ => ⟨S512x512, .f32⟩
  | .local _ .vmem, ⟨4, _⟩ => ⟨S512x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMemRefIdeal.lean ====
abbrev S512x2048 : Shape := ⟨2, ![512, 2048]⟩
abbrev S2048x2048 : Shape := ⟨2, ![2048, 2048]⟩
abbrev S512x4096 : Shape := ⟨2, ![512, 4096]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048x2048, .f32⟩
  | .hbm, ⟨3, _⟩ => ⟨S512x2048, .f32⟩
  | .hbm, ⟨4, _⟩ => ⟨S512x2048, .f32⟩
  | .hbm, ⟨5, _⟩ => ⟨S512x4096, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutEven.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S1024x2048 : Shape := ⟨2, ![1024, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutEvenRefIdeal.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== OutOdd.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutOddRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Experts.lean ====
abbrev S40960x2048 : Shape := ⟨2, ![40960, 2048]⟩
abbrev S160 : Shape := ⟨1, ![160]⟩
abbrev S1 : Shape := ⟨1, ![1]⟩
abbrev S32x2048x2048 : Shape := ⟨3, ![32, 2048, 2048]⟩
abbrev S32x2048 : Shape := ⟨2, ![32, 2048]⟩
abbrev S32x1024x2048 : Shape := ⟨3, ![32, 1024, 2048]⟩
abbrev S32x2048x1024 : Shape := ⟨3, ![32, 2048, 1024]⟩
abbrev S32x1024 : Shape := ⟨2, ![32, 1024]⟩
abbrev S32x1x1024 : Shape := ⟨3, ![32, 1, 1024]⟩
abbrev S32x1x2048 : Shape := ⟨3, ![32, 1, 2048]⟩
abbrev S256x2048 : Shape := ⟨2, ![256, 2048]⟩
abbrev S1x2048x1024 : Shape := ⟨3, ![1, 2048, 1024]⟩
abbrev S1x1x1024 : Shape := ⟨3, ![1, 1, 1024]⟩
abbrev S1x1024x2048 : Shape := ⟨3, ![1, 1024, 2048]⟩
abbrev S1x1x2048 : Shape := ⟨3, ![1, 1, 2048]⟩
abbrev S2048x1024 : Shape := ⟨2, ![2048, 1024]⟩
abbrev S256x1024 : Shape := ⟨2, ![256, 1024]⟩
abbrev S1x1024 : Shape := ⟨2, ![1, 1024]⟩
abbrev S1024x2048 : Shape := ⟨2, ![1024, 2048]⟩
abbrev S1x2048 : Shape := ⟨2, ![1, 2048]⟩

abbrev nBuf : Space → Nat
  | .hbm => 16
  | .vmem => 16
  | .smem => 2
  | _ => 0

abbrev bufTy : (tb : Table) → Fin (tcTables nBuf tb) → BufTy
  | .hbm, ⟨0, _⟩ => ⟨S40960x2048, .f32⟩
  | .hbm, ⟨1, _⟩ => ⟨S32x2048x2048, .f32⟩
  | .hbm, ⟨2, _⟩ => ⟨S32x2048, .f32⟩
  | .hbm, ⟨3, _⟩ => ⟨S32x1024x2048, .f32⟩
  | .hbm, ⟨4, _⟩ => ⟨S32x2048, .f32⟩
  | .hbm, ⟨5, _⟩ => ⟨S32x2048x1024, .f32⟩
  | .hbm, ⟨6, _⟩ => ⟨S32x2048x1024, .bf16⟩
  | .hbm, ⟨7, _⟩ => ⟨S32x2048x1024, .f32⟩
  | .hbm, ⟨8, _⟩ => ⟨S32x2048x1024, .bf16⟩
  | .hbm, ⟨9, _⟩ => ⟨S32x1024, .f32⟩
  | .hbm, ⟨10, _⟩ => ⟨S32x1x1024, .f32⟩
  | .hbm, ⟨11, _⟩ => ⟨S32x1024, .f32⟩
  | .hbm, ⟨12, _⟩ => ⟨S32x1x1024, .f32⟩
  | .hbm, ⟨13, _⟩ => ⟨S32x1024x2048, .bf16⟩
  | .hbm, ⟨14, _⟩ => ⟨S32x1x2048, .f32⟩
  | .hbm, ⟨15, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x1x2048, .f32⟩
  | .local _ .vmem, ⟨13, _⟩ => ⟨S1x1x2048, .f32⟩
  | .local _ .vmem, ⟨14, _⟩ => ⟨S256x2048, .f32⟩
  | .local _ .vmem, ⟨15, _⟩ => ⟨S256x2048, .f32⟩
  | .local _ .smem, ⟨0, _⟩ => ⟨S160, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S40960x2048 : Shape := ⟨2, ![40960, 2048]⟩
abbrev S160 : Shape := ⟨1, ![160]⟩
abbrev S1 : Shape := ⟨1, ![1]⟩
abbrev S32x2048x2048 : Shape := ⟨3, ![32, 2048, 2048]⟩
abbrev S32x2048 : Shape := ⟨2, ![32, 2048]⟩
abbrev S32x1024x2048 : Shape := ⟨3, ![32, 1024, 2048]⟩
abbrev S160x256x2048 : Shape := ⟨3, ![160, 256, 2048]⟩
abbrev S_ : Shape := ⟨0, ![]⟩
abbrev S160x1 : Shape := ⟨2, ![160, 1]⟩
abbrev S160x2048x2048 : Shape := ⟨3, ![160, 2048, 2048]⟩
abbrev S160x2048 : Shape := ⟨2, ![160, 2048]⟩
abbrev S160x1x2048 : Shape := ⟨3, ![160, 1, 2048]⟩
abbrev S160x256x1024 : Shape := ⟨3, ![160, 256, 1024]⟩
abbrev S160x1024x2048 : Shape := ⟨3, ![160, 1024, 2048]⟩
abbrev S160x1x1 : Shape := ⟨3, ![160, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S160, .i32⟩
  | .hbm, ⟨2, _⟩ => ⟨S1, .i32⟩
  | .hbm, ⟨3, _⟩ => ⟨S32x2048x2048, .f32⟩
  | .hbm, ⟨4, _⟩ => ⟨S32x2048, .f32⟩
  | .hbm, ⟨5, _⟩ => ⟨S32x1024x2048, .f32⟩
  | .hbm, ⟨6, _⟩ => ⟨S32x2048, .f32⟩
  | .hbm, ⟨7, _⟩ => ⟨S160x256x2048, .f32⟩
  | .hbm, ⟨8, _⟩ => ⟨S_, .i32⟩
  | .hbm, ⟨9, _⟩ => ⟨S160, .i32⟩
  | .hbm, ⟨10, _⟩ => ⟨S160, .i1⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S160, .i32⟩
  | .hbm, ⟨15, _⟩ => ⟨S160x1, .i32⟩
  | .hbm, ⟨16, _⟩ => ⟨S160x2048x2048, .f32⟩
  | .hbm, ⟨17, _⟩ => ⟨S160x256x2048, .f32⟩
  | .hbm, ⟨18, _⟩ => ⟨S_, .i32⟩
  | .hbm, ⟨19, _⟩ => ⟨S160, .i32⟩
  | .hbm, ⟨20, _⟩ => ⟨S160, .i1⟩
  | .hbm, ⟨21, _⟩ => ⟨S_, .i32⟩
  | .hbm, ⟨22, _⟩ => ⟨S160, .i32⟩
  | .hbm, ⟨23, _⟩ => ⟨S160, .i32⟩
  | .hbm, ⟨24, _⟩ => ⟨S160, .i32⟩
  | .hbm, ⟨25, _⟩ => ⟨S160x1, .i32⟩
  | .hbm, ⟨26, _⟩ => ⟨S160x2048, .f32⟩
  | .hbm, ⟨27, _⟩ => ⟨S160x1x2048, .f32⟩
  | .hbm, ⟨28, _⟩ => ⟨S160x256x2048, .f32⟩
  | .hbm, ⟨29, _⟩ => ⟨S160x256x2048, .f32⟩
  | .hbm, ⟨30, _⟩ => ⟨S160x256x1024, .f32⟩
  | .hbm, ⟨31, _⟩ => ⟨S160x256x1024, .f32⟩
  | .hbm, ⟨32, _⟩ => ⟨S_, .f32⟩
  | .hbm, ⟨33, _⟩ => ⟨S160x256x1024, .f32⟩
  | .hbm, ⟨34, _⟩ => ⟨S160x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S160x256x1024, .f32⟩
  | .hbm, ⟨39, _⟩ => ⟨S160x256x1024, .f32⟩
  | .hbm, ⟨40, _⟩ => ⟨S_, .f32⟩
  | .hbm, ⟨41, _⟩ => ⟨S160x256x1024, .f32⟩
  | .hbm, ⟨42, _⟩ => ⟨S160x256x1024, .f32⟩
  | .hbm, ⟨43, _⟩ => ⟨S_, .f32⟩
  | .hbm, ⟨44, _⟩ => ⟨S160x256x1024, .f32⟩
  | .hbm, ⟨45, _⟩ => ⟨S160x256x1024, .f32⟩
  | .hbm, ⟨46, _⟩ => ⟨S160x256x1024, .f32⟩
  | .hbm, ⟨47, _⟩ => ⟨S_, .f32⟩
  | .hbm, ⟨48, _⟩ => ⟨S160x256x1024, .f32⟩
  | .hbm, ⟨49, _⟩ => ⟨S160x256x1024, .f32⟩
  | .hbm, ⟨50, _⟩ => ⟨S160x256x1024, .f32⟩
  | .hbm, ⟨51, _⟩ => ⟨S160x256x1024, .f32⟩
  | .hbm, ⟨52, _⟩ => ⟨S_, .f32⟩
  | .hbm, ⟨53, _⟩ => ⟨S160x256x1024, .f32⟩
  | .hbm, ⟨54, _⟩ => ⟨S160x256x1024, .f32⟩
  | .hbm, ⟨55, _⟩ => ⟨S_, .f32⟩
  | .hbm, ⟨56, _⟩ => ⟨S160x256x1024, .f32⟩
  | .hbm, ⟨57, _⟩ => ⟨S160x256x1024, .f32⟩
  | .hbm, ⟨58, _⟩ => ⟨S160x256x1024, .f32⟩
  | .hbm, ⟨59, _⟩ => ⟨S_, .i32⟩
  | .hbm, ⟨60, _⟩ => ⟨S160, .i32⟩
  | .hbm, ⟨61, _⟩ => ⟨S160, .i1⟩
  | .hbm, ⟨62, _⟩ => ⟨S_, .i32⟩
  | .hbm, ⟨63, _⟩ => ⟨S160, .i32⟩
  | .hbm, ⟨64, _⟩ => ⟨S160, .i32⟩
  | .hbm, ⟨65, _⟩ => ⟨S160, .i32⟩
  | .hbm, ⟨66, _⟩ => ⟨S160x1, .i32⟩
  | .hbm, ⟨67, _⟩ => ⟨S160x1024x2048, .f32⟩
  | .hbm, ⟨68, _⟩ => ⟨S160x256x2048, .f32⟩
  | .hbm, ⟨69, _⟩ => ⟨S_, .i32⟩
  | .hbm, ⟨70, _⟩ => ⟨S160, .i32⟩
  | .hbm, ⟨71, _⟩ => ⟨S160, .i1⟩
  | .hbm, ⟨72, _⟩ => ⟨S_, .i32⟩
  | .hbm, ⟨73, _⟩ => ⟨S160, .i32⟩
  | .hbm, ⟨74, _⟩ => ⟨S160, .i32⟩
  | .hbm, ⟨75, _⟩ => ⟨S160, .i32⟩
  | .hbm, ⟨76, _⟩ => ⟨S160x1, .i32⟩
  | .hbm, ⟨77, _⟩ => ⟨S160x2048, .f32⟩
  | .hbm, ⟨78, _⟩ => ⟨S160x1x2048, .f32⟩
  | .hbm, ⟨79, _⟩ => ⟨S160x256x2048, .f32⟩
  | .hbm, ⟨80, _⟩ => ⟨S160x256x2048, .f32⟩
  | .hbm, ⟨81, _⟩ => ⟨S160, .i32⟩
  | .hbm, ⟨82, _⟩ => ⟨S_, .i32⟩
  | .hbm, ⟨83, _⟩ => ⟨S160, .i32⟩
  | .hbm, ⟨84, _⟩ => ⟨S160, .i1⟩
  | .hbm, ⟨85, _⟩ => ⟨S160x1x1, .i1⟩
  | .hbm, ⟨86, _⟩ => ⟨S_, .f32⟩
  | .hbm, ⟨87, _⟩ => ⟨S_, .f32⟩
  | .hbm, ⟨88, _⟩ => ⟨S160x256x2048, .i1⟩
  | .hbm, ⟨89, _⟩ => ⟨S160x256x2048, .f32⟩
  | .hbm, ⟨90, _⟩ => ⟨S160x256x2048, .f32⟩
  | .hbm, ⟨91, _⟩ => ⟨S40960x2048, .f32⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Combine.lean ====
abbrev S40960x2048 : Shape := ⟨2, ![40960, 2048]⟩
abbrev S4x8192 : Shape := ⟨2, ![4, 8192]⟩
abbrev S8192x2048 : Shape := ⟨2, ![8192, 2048]⟩
abbrev S2048 : Shape := ⟨1, ![2048]⟩
abbrev S8192x4 : Shape := ⟨2, ![8192, 4]⟩
abbrev S1x2048 : Shape := ⟨2, ![1, 2048]⟩
abbrev S4x256 : Shape := ⟨2, ![4, 256]⟩
abbrev S256x4 : Shape := ⟨2, ![256, 4]⟩
abbrev S256x2048 : Shape := ⟨2, ![256, 2048]⟩
abbrev S4x256x2048 : Shape := ⟨3, ![4, 256, 2048]⟩
abbrev S_ : Shape := ⟨0, ![]⟩
abbrev S1x1 : Shape := ⟨2, ![1, 1]⟩
abbrev S1x1x2048 : Shape := ⟨3, ![1, 1, 2048]⟩
abbrev S1x256x2048 : Shape := ⟨3, ![1, 256, 2048]⟩
abbrev S256x1 : Shape := ⟨2, ![256, 1]⟩
abbrev S256 : Shape := ⟨1, ![256]⟩

abbrev nBuf : Space → Nat
  | .hbm => 10
  | .vmem => 9
  | .smem => 2
  | _ => 0

abbrev bufTy : (tb : Table) → Fin (tcTables nBuf tb) → BufTy
  | .hbm, ⟨0, _⟩ => ⟨S40960x2048, .f32⟩
  | .hbm, ⟨1, _⟩ => ⟨S4x8192, .i32⟩
  | .hbm, ⟨2, _⟩ => ⟨S4x8192, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8192x4, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S256x4, .f32⟩
  | .local _ .vmem, ⟨1, _⟩ => ⟨S256x4, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S4x256x2048, .f32⟩
  | .local _ .smem, ⟨0, _⟩ => ⟨S4x256, .i32⟩
  | .local _ .smem, ⟨1, _⟩ => ⟨S4x256, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 2 → Nat :=
  let c0_33 : Index := 0#32
  let c0_i32 : BitVec 32 := 0#32
  let c1_i32 : BitVec 32 := 1#32
  let arg10 : BitVec 32 := Scf.iv c0_i32 c1_i32 k0_t1
  let v58 : Index := Scalar.indexCast arg10
  ![0, v58.toNat]
def k0_off2 (k0_t1 : Fin k0_t1_loop.trips) : Fin 3 → Nat :=
  let c0_i32_34 : BitVec 32 := 0#32
  let c0_i32 : BitVec 32 := 0#32
  let c1_i32 : BitVec 32 := 1#32
  let arg10 : BitVec 32 := Scf.iv c0_i32 c1_i32 k0_t1
  let c0_i32_35 : BitVec 32 := 0#32
  ![0, arg10.toNat, 0]
def k0_off3 (v59 : BitVec 32) : Fin 2 → Nat :=
  let c0_i32_36 : BitVec 32 := 0#32
  ![v59.toNat, 0]

def k0_chk1 (v59 : BitVec 32) : Prop :=
  (∀ a, (k0_off3 v59) a + S1x2048.size a ≤ S40960x2048.size a)
theorem k0_off3_inb : ∀ (v59 : BitVec 32) (k0_hw1 : k0_chk1 v59), ∀ a, (k0_off3 v59) a + S1x2048.size a ≤ S40960x2048.size a := fun v59 k0_hw1 => k0_hw1

def k0_off4 (k0_t1 : Fin k0_t1_loop.trips) : Fin 2 → Nat :=
  let c1_37 : Index := 1#32
  let c0_i32 : BitVec 32 := 0#32
  let c1_i32 : BitVec 32 := 1#32
  let arg10 : BitVec 32 := Scf.iv c0_i32 c1_i32 k0_t1
  let v63 : Index := Scalar.indexCast arg10
  ![1, v63.toNat]
def k0_off5 (k0_t1 : Fin k0_t1_loop.trips) : Fin 3 → Nat :=
  let c1_i32_38 : BitVec 32 := 1#32
  let c0_i32 : BitVec 32 := 0#32
  let c1_i32 : BitVec 32 := 1#32
  let arg10 : BitVec 32 := Scf.iv c0_i32 c1_i32 k0_t1
  let c0_i32_39 : BitVec 32 := 0#32
  ![1, arg10.toNat, 0]
def k0_off6 (v64 : BitVec 32) : Fin 2 → Nat :=
  let c0_i32_40 : BitVec 32 := 0#32
  ![v64.toNat, 0]

def k0_chk2 (v64 : BitVec 32) : Prop :=
  (∀ a, (k0_off6 v64) a + S1x2048.size a ≤ S40960x2048.size a)
theorem k0_off6_inb : ∀ (v64 : BitVec 32) (k0_hw2 : k0_chk2 v64), ∀ a, (k0_off6 v64) a + S1x2048.size a ≤ S40960x2048.size a := fun v64 k0_hw2 => k0_hw2

def k0_off7 (k0_t1 : Fin k0_t1_loop.trips) : Fin 2 → Nat :=
  let c2_41 : Index := 2#32
  let c0_i32 : BitVec 32 := 0#32
  let c1_i32 : BitVec 32 := 1#32
  let arg10 : BitVec 32 := Scf.iv c0_i32 c1_i32 k0_t1
  let v68 : Index := Scalar.indexCast arg10
  ![2, v68.toNat]
def k0_off8 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let c0_i32_42 : BitVec 32 := 0#32
  ![2, arg10.toNat, 0]
def k0_off9 (v69 : BitVec 32) : Fin 2 → Nat :=
  let c0_i32_43 : BitVec 32 := 0#32
  ![v69.toNat, 0]

def k0_chk3 (v69 : BitVec 32) : Prop :=
  (∀ a, (k0_off9 v69) a + S1x2048.size a ≤ S40960x2048.size a)
theorem k0_off9_inb : ∀ (v69 : BitVec 32) (k0_hw3 : k0_chk3 v69), ∀ a, (k0_off9 v69) a + S1x2048.size a ≤ S40960x2048.size a := fun v69 k0_hw3 => k0_hw3

def k0_off10 (k0_t1 : Fin k0_t1_loop.trips) : Fin 2 → Nat :=
  let c3_44 : Index := 3#32
  let c0_i32 : BitVec 32 := 0#32
  let c1_i32 : BitVec 32 := 1#32
  let arg10 : BitVec 32 := Scf.iv c0_i32 c1_i32 k0_t1
  let v73 : Index := Scalar.indexCast arg10
  ![3, v73.toNat]
def k0_off11 (k0_t1 : Fin k0_t1_loop.trips) : Fin 3 → Nat :=
  let c3_i32 : BitVec 32 := 3#32
  let c0_i32 : BitVec 32 := 0#32
  let c1_i32 : BitVec 32 := 1#32
  let arg10 : BitVec 32 := Scf.iv c0_i32 c1_i32 k0_t1
  let c0_i32_45 : BitVec 32 := 0#32
  ![3, arg10.toNat, 0]
def k0_off12 (v74 : BitVec 32) : Fin 2 → Nat :=
  let c0_i32_46 : BitVec 32 := 0#32
  ![v74.toNat, 0]

def k0_chk4 (v74 : BitVec 32) : Prop :=
  (∀ a, (k0_off12 v74) a + S1x2048.size a ≤ S40960x2048.size a)
theorem k0_off12_inb : ∀ (v74 : BitVec 32) (k0_hw4 : k0_chk4 v74), ∀ a, (k0_off12 v74) a + S1x2048.size a ≤ S40960x2048.size a := fun v74 k0_hw4 => k0_hw4

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S4x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S40960x2048 : Shape := ⟨2, ![40960, 2048]⟩
abbrev S4x8192 : Shape := ⟨2, ![4, 8192]⟩
abbrev S8192x2048 : Shape := ⟨2, ![8192, 2048]⟩
abbrev S2048 : Shape := ⟨1, ![2048]⟩
abbrev S_ : Shape := ⟨0, ![]⟩
abbrev S4x8192x1 : Shape := ⟨3, ![4, 8192, 1]⟩
abbrev S4x8192x2048 : Shape := ⟨3, ![4, 8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S4x8192, .i32⟩
  | .hbm, ⟨2, _⟩ => ⟨S4x8192, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S_, .i32⟩
  | .hbm, ⟨7, _⟩ => ⟨S4x8192, .i32⟩
  | .hbm, ⟨8, _⟩ => ⟨S4x8192, .i1⟩
  | .hbm, ⟨9, _⟩ => ⟨S_, .i32⟩
  | .hbm, ⟨10, _⟩ => ⟨S4x8192, .i32⟩
  | .hbm, ⟨11, _⟩ => ⟨S4x8192, .i32⟩
  | .hbm, ⟨12, _⟩ => ⟨S4x8192, .i32⟩
  | .hbm, ⟨13, _⟩ => ⟨S4x8192x1, .i32⟩
  | .hbm, ⟨14, _⟩ => ⟨S4x8192x2048, .f32⟩
  | .hbm, ⟨15, _⟩ => ⟨S4x8192x1, .f32⟩
  | .hbm, ⟨16, _⟩ => ⟨S4x8192x2048, .f32⟩
  | .hbm, ⟨17, _⟩ => ⟨S4x8192x2048, .f32⟩
  | .hbm, ⟨18, _⟩ => ⟨S_, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .f32⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.Rows.lean ====
module

public import Idealize.ShloMosaic.Lib.Pointwise

@[expose] public section

noncomputable section

open Idealize.ShloMosaic

/-! The two row formulas of the layer, over the extended reals: the softmax weights of a row of scores and the layer
    normalisation of a row. Both programs of a claim are read down to these. -/

namespace Cert.Rows

/-- The largest score of a row, from minus infinity upwards. -/
def top {n : Nat} (s : Fin n → EReal) : EReal :=
  Finset.univ.fold max (Ideal.ofBits .f32 0xFF800000#32) s

/-- The softmax weight of place `i` in a row of scores. -/
def weight {n : Nat} (s : Fin n → EReal) (i : Fin n) : EReal :=
  Ideal.div (Ideal.exp (s i - top s)) (∑ k : Fin n, Ideal.exp (s k - top s))

/-- The mean of a row of 2048 numbers. -/
def mean (r : Fin 2048 → EReal) : EReal :=
  Ideal.div (∑ k : Fin 2048, r k) (Ideal.ofBits .f32 0x45000000#32)

/-- The mean of the squares of a row's distances from its mean. -/
def variance (r : Fin 2048 → EReal) : EReal :=
  Ideal.div (∑ k : Fin 2048, (r k - mean r) * (r k - mean r)) (Ideal.ofBits .f32 0x45000000#32)

/-- The layer normalisation of a row, with gain `g` and offset `b`, at column `j`. -/
def norm (r g b : Fin 2048 → EReal) (j : Fin 2048) : EReal :=
  (r j - mean r) * Ideal.rsqrt (variance r + Ideal.ofBits .f32 0x3727C5AC#32) * g j + b j

/-- Taking the maximum with minus infinity once more changes nothing: the fold starts there. -/
theorem max_top {n : Nat} (s : Fin n → EReal) : max (Ideal.ofBits .f32 0xFF800000#32) (top s) = top s :=
  max_eq_right (Finset.le_fold_max (s := Finset.univ) (f := s) _ |>.mpr (Or.inl le_rfl))

/-- Column `d` of the head that column `u` lies in: a head is 512 columns wide. -/
def col (u : Fin 2048) (d : Fin 512) : Fin 2048 :=
  ⟨512 * (u.val / 512) + d.val, by omega⟩

/-- One row of attention over 256 memory places, at column `u`: the head of `u` weighs the places by the softmax of its
    scaled scores, and the column's values are summed with these weights. -/
def attend (q : Fin 2048 → EReal) (k v : Fin 256 → Fin 2048 → EReal) (u : Fin 2048) : EReal :=
  ∑ m : Fin 256, weight (fun m => (∑ d : Fin 512, q (col u d) * k m (col u d)) * Ideal.ofBits .f32 0x3D3504F3#32) m * v m u

/-- A row times a matrix, at column `j`. -/
def times (x : Fin 2048 → EReal) (w : Fin 2048 → Fin 2048 → EReal) (j : Fin 2048) : EReal :=
  ∑ k : Fin 2048, x k * w k j

/-- A row onto the scaled residual, then normalised. -/
def onto (x y g b : Fin 2048 → EReal) (j : Fin 2048) : EReal :=
  norm (fun j => Ideal.ofBits .f32 0x3FB504F3#32 * x j + y j) g b j

/-- A load or store at offsets zero: the offsets as the constant function. -/
theorem zeros2 : (![0, 0] : Fin 2 → Nat) = fun _ => 0 := funext fun a => by fin_cases a <;> rfl
/-- The same of three offsets. -/
theorem zeros3 : (![0, 0, 0] : Fin 3 → Nat) = fun _ => 0 := funext fun a => by fin_cases a <;> rfl

end Cert.Rows
-- ==== Proof.AttnRef.lean ====
module

public import proofs.«01_k».proof.Defs
public import proofs.«01_k».proof.Proof.Rows
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open Idealize.ShloMosaic.Pointwise

/-! The reference's result, entry by entry, as the row formulas of `Rows`. -/

namespace Cert.ReferenceIdeal.Entry
open Cert.ReferenceIdeal Cert.ReferenceIdeal.Read

variable (x : (⟨S2x4096x2048, .f32⟩ : BufTy).Contents (Elt Ideal)) (kv : (⟨S2x256x4096, .f32⟩ : BufTy).Contents (Elt Ideal))
  (wq wo : (⟨S2048x2048, .f32⟩ : BufTy).Contents (Elt Ideal)) (g b : (⟨S2048, .f32⟩ : BufTy).Contents (Elt Ideal))

/-- The queries: entry `d` of head `h` is column `512 h + d` of the row through the query weights. -/
theorem query (n : Fin 2) (s : Fin 4096) (h : Fin 4) (d : Fin 512) (u : Fin 2048) (e : u.val = 512 * h.val + d.val) :
    val_main_v1 (F := Ideal) x wq (ix4 n s h d) = Rows.times (fun k => x (ix3 n s k)) (fun k j => wq (ix2 k j)) u := by
  rw [val_main_v1_apply, val_main_v0_apply]
  have i : idx_main_v1 (ix4 n s h d) = ix3 n s u := by
    funext a
    refine Fin.ext ?_
    match a with
    | ⟨0, _⟩ => show (((n.val * 4096 + s.val) * 4 + h.val) * 512 + d.val) / 8388608 = n.val; omega
    | ⟨1, _⟩ => show (((n.val * 4096 + s.val) * 4 + h.val) * 512 + d.val) / 2048 % 4096 = s.val; omega
    | ⟨2, _⟩ => show (((n.val * 4096 + s.val) * 4 + h.val) * 512 + d.val) % 2048 = u.val; omega
  rw [i]
  refine Finset.sum_congr rfl fun k _ => Ideal.mul_congr (congrArg x ?_) (congrArg wq ?_)
  · exact eq_ix3 _
  · exact eq_ix2 _

/-- The keys: entry `d` of head `h` is column `512 h + d` of the memory's first half. -/
theorem key (n : Fin 2) (m : Fin 256) (h : Fin 4) (d : Fin 512) (u : Fin 2048) (e : u.val = 512 * h.val + d.val) :
    val_main_v3 (F := Ideal) kv (ix4 n m h d) = kv (ix3 n m ⟨u.val, by omega⟩) := by
  rw [val_main_v3_apply, val_main_v2_apply]
  refine congrArg kv (funext fun a => Fin.ext ?_)
  match a with
  | ⟨0, _⟩ => show (((n.val * 256 + m.val) * 4 + h.val) * 512 + d.val) / 524288 = n.val; omega
  | ⟨1, _⟩ => show (((n.val * 256 + m.val) * 4 + h.val) * 512 + d.val) / 2048 % 256 = m.val; omega
  | ⟨2, _⟩ => show (((n.val * 256 + m.val) * 4 + h.val) * 512 + d.val) % 2048 = u.val; omega

/-- The values: entry `d` of head `h` is column `512 h + d` of the memory's second half. -/
theorem value (n : Fin 2) (m : Fin 256) (h : Fin 4) (d : Fin 512) (u : Fin 2048) (e : u.val = 512 * h.val + d.val) :
    val_main_v5 (F := Ideal) kv (ix4 n m h d) = kv (ix3 n m ⟨2048 + u.val, by omega⟩) := by
  rw [val_main_v5_apply, val_main_v4_apply]
  refine congrArg kv (funext fun a => Fin.ext ?_)
  match a with
  | ⟨0, _⟩ => show (((n.val * 256 + m.val) * 4 + h.val) * 512 + d.val) / 524288 = n.val; omega
  | ⟨1, _⟩ => show (((n.val * 256 + m.val) * 4 + h.val) * 512 + d.val) / 2048 % 256 = m.val; omega
  | ⟨2, _⟩ => show 2048 + (((n.val * 256 + m.val) * 4 + h.val) * 512 + d.val) % 2048 = 2048 + u.val; omega

/-- The scaled scores of a row in the head of column `u`. -/
theorem score (n : Fin 2) (h : Fin 4) (s : Fin 4096) (m : Fin 256) (u : Fin 2048) (e : u.val / 512 = h.val) :
    val_main_v8 (F := Ideal) x kv wq (ix4 n h s m)
      = (∑ d : Fin 512, Rows.times (fun k => x (ix3 n s k)) (fun k j => wq (ix2 k j)) (Rows.col u d)
          * kv (ix3 n m ⟨(Rows.col u d).val, by omega⟩)) * Ideal.ofBits .f32 0x3D3504F3#32 := by
  rw [val_main_v8_apply, val_main_v6_apply, val_main_v7_apply, val_main_cst_apply]
  refine congrArg (fun z : EReal => z * Ideal.ofBits .f32 0x3D3504F3#32) (Finset.sum_congr rfl fun d _ => Ideal.mul_congr ?_ ?_)
  · exact (congrArg (val_main_v1 (F := Ideal) x wq) (eq_ix4 _)).trans (query x wq n s h d (Rows.col u d) (by show 512 * (u.val / 512) + d.val = _; rw [e]))
  · exact (congrArg (val_main_v3 (F := Ideal) kv) (eq_ix4 _)).trans (key kv n m h d (Rows.col u d) (by show 512 * (u.val / 512) + d.val = _; rw [e]))

/-- The largest score of a row of a head. -/
theorem largest (n : Fin 2) (h : Fin 4) (s : Fin 4096) :
    val_main_v9 (F := Ideal) x kv wq (ix3 n h s) = Rows.top fun m => val_main_v8 (F := Ideal) x kv wq (ix4 n h s m) := by
  unfold val_main_v9
  generalize val_main_v8 (F := Ideal) x kv wq = z
  pointwise [val_main_cst_0]
  rfl

/-- The exponential of a score's distance from the largest. -/
theorem power (n : Fin 2) (h : Fin 4) (s : Fin 4096) (m : Fin 256) :
    val_main_v15 (F := Ideal) x kv wq (ix4 n h s m) = Ideal.exp (val_main_v8 (F := Ideal) x kv wq (ix4 n h s m)
      - Rows.top fun m => val_main_v8 (F := Ideal) x kv wq (ix4 n h s m)) := by
  rw [val_main_v15_apply, val_main_v14_apply, val_main_v13_apply, val_main_v12_apply, val_main_v11_apply, val_main_v10_apply, val_main_cst_1_apply]
  have e := largest x kv wq n h s
  rw [← Rows.max_top, ← e]
  exact congrArg (fun i => Ideal.exp (_ - max _ (val_main_v9 (F := Ideal) x kv wq i))) (eq_ix3 _)

/-- The softmax of the scores. -/
theorem prob (n : Fin 2) (h : Fin 4) (s : Fin 4096) (m : Fin 256) :
    val_main_v19 (F := Ideal) x kv wq (ix4 n h s m)
      = Rows.weight (fun m => val_main_v8 (F := Ideal) x kv wq (ix4 n h s m)) m := by
  rw [val_main_v19_apply, val_main_v18_apply, val_main_v17_apply, val_main_v16_apply, val_main_cst_2_apply]
  refine congrArg₂ Ideal.div (power x kv wq n h s m) ?_
  refine ((congrArg (· + _) Ideal.ofBits_zero_f32).trans (zero_add _)).trans (Finset.sum_congr rfl fun k _ => ?_)
  exact (congrArg (val_main_v15 (F := Ideal) x kv wq) (eq_ix4 _)).trans (power x kv wq n h s k)

/-- The attended row, at column `u`. -/
theorem attended (n : Fin 2) (s : Fin 4096) (u : Fin 2048) :
    val_main_v22 (F := Ideal) x kv wq (ix3 n s u)
      = Rows.attend (Rows.times (fun k => x (ix3 n s k)) (fun k j => wq (ix2 k j)))
          (fun m j => kv (ix3 n m ⟨j.val, by omega⟩)) (fun m j => kv (ix3 n m ⟨2048 + j.val, by omega⟩)) u := by
  rw [val_main_v22_apply, val_main_v21_apply, val_main_v20_apply]
  refine Finset.sum_congr rfl fun m _ => (mul_comm _ _).trans (Ideal.mul_congr ?_ ?_)
  · have i : ridx_main_v20 (idx_main_v21 (idx_main_v22 (ix3 n s u))) m = ix4 n (⟨u.val / 512, by omega⟩ : Fin 4) s m := by
      funext a
      refine Fin.ext ?_
      match a with
      | ⟨0, _⟩ => show ((n.val * 4096 + s.val) * 2048 + u.val) / 8388608 = n.val; omega
      | ⟨1, _⟩ => show ((n.val * 4096 + s.val) * 2048 + u.val) / 512 % 4 = u.val / 512; omega
      | ⟨2, _⟩ => show ((n.val * 4096 + s.val) * 2048 + u.val) / 2048 % 4096 = s.val; omega
      | ⟨3, _⟩ => rfl
    rw [i, prob]
    exact congrArg (fun f => Rows.weight f m) (funext fun m => score x kv wq n _ s m u rfl)
  · have i : lidx_main_v20 (idx_main_v21 (idx_main_v22 (ix3 n s u))) m
        = ix4 n m (⟨u.val / 512, by omega⟩ : Fin 4) (⟨u.val % 512, by omega⟩ : Fin 512) := by
      funext a
      refine Fin.ext ?_
      match a with
      | ⟨0, _⟩ => show ((n.val * 4096 + s.val) * 2048 + u.val) / 8388608 = n.val; omega
      | ⟨1, _⟩ => rfl
      | ⟨2, _⟩ => show ((n.val * 4096 + s.val) * 2048 + u.val) / 512 % 4 = u.val / 512; omega
      | ⟨3, _⟩ => show ((n.val * 4096 + s.val) * 2048 + u.val) % 512 = u.val % 512; omega
    rw [i]
    exact value kv n m _ _ u (by show u.val = 512 * (u.val / 512) + u.val % 512; omega)

/-- The layer normalisation at the end, over the rows that it normalises. -/
theorem normed (n : Fin 2) (s : Fin 4096) (j : Fin 2048) :
    val_main_v50 (F := Ideal) x kv wq wo g b (ix3 n s j)
      = Rows.norm (fun k => val_main_v26 (F := Ideal) x kv wq wo (ix3 n s k)) (fun k => g (ix1 k)) (fun k => b (ix1 k)) j := by
  unfold val_main_v50 val_main_v47 val_main_v44 val_main_v43 val_main_v42 val_main_v41 val_main_v37 val_main_v35 val_main_v34 val_main_v33 val_main_v32
    val_main_v39 val_main_v38 val_main_v31 val_main_v30 val_main_v28 val_main_v27
  generalize val_main_v26 (F := Ideal) x kv wq wo = z
  pointwise [val_main_v49, val_main_v48, val_main_v46, val_main_v45, val_main_v40, val_main_v36, val_main_v29, val_main_cst_4, val_main_cst_5, val_main_cst_6, val_main_cst_7, val_main_cst_8]
  rfl

/-- The reference's result, entry by entry. -/
theorem result (n : Fin 2) (s : Fin 4096) (j : Fin 2048) :
    val_main_v50 (F := Ideal) x kv wq wo g b (ix3 n s j)
      = Rows.onto (fun k => x (ix3 n s k))
          (Rows.times (Rows.attend (Rows.times (fun k => x (ix3 n s k)) (fun k j => wq (ix2 k j)))
            (fun m j => kv (ix3 n m ⟨j.val, by omega⟩)) (fun m j => kv (ix3 n m ⟨2048 + j.val, by omega⟩)))
            (fun k j => wo (ix2 k j)))
          (fun k => g (ix1 k)) (fun k => b (ix1 k)) j := by
  rw [normed]
  refine congrArg (fun f => Rows.norm f _ _ j) (funext fun u => ?_)
  rw [val_main_v26_apply, val_main_v24_apply, val_main_v23_apply, val_main_cst_3_apply, val_main_v25_apply]
  refine Ideal.add_congr rfl (Finset.sum_congr rfl fun k _ => Ideal.mul_congr ?_ (congrArg wo (eq_ix2 _)))
  exact (congrArg (val_main_v22 (F := Ideal) x kv wq) (eq_ix3 _)).trans (attended x kv wq n s k)

end Cert.ReferenceIdeal.Entry
-- ==== Proof.Attn.lean ====
module

public import proofs.«01_k».proof.Defs
public import proofs.«01_k».proof.Proof.Rows
public import proofs.«01_k».proof.Proof.Gen.Kernel.Frame
public import proofs.«01_k».proof.Proof.Gen.KernelIdeal.Value
public import proofs.«01_k».proof.Proof.AttnRef
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.KernelIdeal.Attn
open Cert.KernelIdeal Cert.KernelIdeal.Gen

/-- The scaled scores of one head: its queries against its keys. -/
def scores (q : FVec Ideal S256x512 .bf16) (k : Vec Ideal S1x256x512 .f32) : FVec Ideal S256x256 .f32 :=
  mulf (matmul dot_S256x512_S256x512_S256x256_1_1_0_0_n_n none q (truncf .bf16 (k0_pay8 k) bitsLt_bf16_f32) (constant S256x256 .f32 0x00000000#32))
    (broadcast S256x256 (Scalar.ofBits (F := Ideal) .f32 0x3D3504F3#32))

/-- The four heads next to each other. -/
def heads (o0 o1 o2 o3 : FVec Ideal S256x512 .f32) : FVec Ideal S256x2048 .f32 :=
  concatenate S256x2048 1 [⟨S256x512, o0⟩, ⟨S256x512, o1⟩, ⟨S256x512, o2⟩, ⟨S256x512, o3⟩] concatenates_S256x512_S256x512_S256x512_S256x512_S256x2048_d1

/-- The heads through the output projection, onto the scaled residual. -/
def onto (x : FVec Ideal S256x2048 .f32) (o : FVec Ideal S256x2048 .f32) (w : Vec Ideal S2048x2048 .bf16) : FVec Ideal S256x2048 .f32 :=
  addf (mulf (broadcast S256x2048 (Scalar.ofBits (F := Ideal) .f32 0x3FB504F3#32)) x)
    (matmul dot_S256x2048_S2048x2048_S256x2048_1_0_0_1_n_n none (truncf .bf16 o bitsLt_bf16_f32)
      (shapeCast S2048x2048 (w : FVec Ideal S2048x2048 .bf16) shapeCasts_S2048x2048_S2048x2048 : FVec Ideal S2048x2048 .bf16) (constant S256x2048 .f32 0x00000000#32))

/-- A row's distances from its mean. -/
def centred (z : FVec Ideal S256x2048 .f32) : FVec Ideal S256x2048 .f32 :=
  subf z (broadcastTo S256x2048
    (divf (shapeCast S256x1 (multiReduction .add [1] S256 z 0x00000000#32 reduces_S256x2048_S256 (.inl rfl) rfl) shapeCasts_S256_S256x1)
      (k0_pay14 (F := Ideal))) broadcasts_S256x1_S256x2048)

/-- Column of sums of squares. -/
def squares (z : FVec Ideal S256x2048 .f32) : FVec Ideal S256x1 .f32 :=
  shapeCast S256x1 (multiReduction .add [1] S256 (mulf z z) 0x00000000#32 reduces_S256x2048_S256 (.inl rfl) rfl) shapeCasts_S256_S256x1

/-- What the body keeps of the rows: the centred sum of residual and attention output. -/
theorem pay12_eq (x o0 o1 o2 : _) (k q v w) :
    k0_pay12 (F := Ideal) x o0 o1 o2 (k0_pay8 k) q v w = centred (onto x (heads o0 o1 o2 (k0_pay6 (scores q k) v)) w) := rfl

/-- Its other kept value: the sums of squares of those rows. -/
theorem pay13_eq (x o0 o1 o2 : _) (k q v w) :
    k0_pay13 (F := Ideal) x o0 o1 o2 (k0_pay8 k) q v w
      = squares (centred (onto x (heads o0 o1 o2 (k0_pay6 (scores q k) v)) w)) := rfl

/-- The first head's output, from the first 512 columns of the queries. -/
theorem pay4_eq (x w k v) : k0_pay4 (F := Ideal) x w k v
    = k0_pay6 (scores (extractStridedSlice S256x512 ![0, 0] (k0_pay3 x w) slices_S256x2048_o0_0_S256x512) k) v := rfl

/-- The second head's scores, from the next 512 columns. -/
theorem pay5_eq (x w k) : k0_pay5 (F := Ideal) x w k
    = scores (extractStridedSlice S256x512 ![0, 512] (k0_pay3 x w) slices_S256x2048_o0_512_S256x512) k := rfl

/-- The third head's output, from the 512 columns after these. -/
theorem pay7_eq (q k v) : k0_pay7 (F := Ideal) q k v
    = k0_pay6 (scores (extractStridedSlice S256x512 ![0, 1024] q slices_S256x2048_o0_1024_S256x512) k) v := rfl

/-- The scores, entry by entry: the scaled product of a query row with a key row. -/
theorem scores_at (q k) (r m : Fin 256) : scores q k (ix2 r m)
    = (∑ d : Fin 512, q (ix2 r d) * k (ix3 0 m d)) * Ideal.ofBits .f32 0x3D3504F3#32 := by
  pointwise [scores, k0_pay8]

/-- A head's output, entry by entry: the values weighed by the softmax of the scores. -/
theorem pay6_at (s v) (r : Fin 256) (d : Fin 512) : k0_pay6 (F := Ideal) s v (ix2 r d)
    = ∑ m : Fin 256, Rows.weight (fun m => s (ix2 r m)) m * v (ix3 0 m d) := by
  pointwise [k0_pay6]
  rfl

/-- The scaled residual with the output projection added, entry by entry. -/
theorem onto_at (x o w) (r : Fin 256) (j : Fin 2048) : onto x o w (ix2 r j)
    = Ideal.ofBits .f32 0x3FB504F3#32 * x (ix2 r j) + ∑ u : Fin 2048, o (ix2 r u) * w (ix2 u j) := by
  pointwise [onto]

/-- The rows less their means, entry by entry. -/
theorem centred_at (z) (r : Fin 256) (j : Fin 2048) : centred z (ix2 r j)
    = z (ix2 r j) - Rows.mean (fun k => z (ix2 r k)) := by
  pointwise [centred, k0_pay14]
  rfl

/-- The sums of squares, row by row. -/
theorem squares_at (z) (r : Fin 256) : squares z (ix2 r 0) = ∑ k : Fin 2048, z (ix2 r k) * z (ix2 r k) := by
  pointwise [squares]

/-- The layer normalisation of the rows of `z`. -/
def normed (z : FVec Ideal S256x2048 .f32) (g b : Vec Ideal S1x2048 .f32) : FVec Ideal S256x2048 .f32 :=
  addf (mulf (mulf (centred z) (broadcastTo S256x2048 (rsqrt (addf (divf (squares (centred z)) (k0_pay14 (F := Ideal)))
      (broadcast S256x1 (Scalar.ofBits (F := Ideal) .f32 0x3727C5AC#32)))) broadcasts_S256x1_S256x2048))
    (broadcastTo S256x2048 (k0_pay10 (F := Ideal) g) broadcasts_S1x2048_S256x2048)) (broadcastTo S256x2048 (k0_pay11 (F := Ideal) b) broadcasts_S1x2048_S256x2048)

/-- It is the row formula. -/
theorem normed_at (z : FVec Ideal S256x2048 .f32) (g b : Vec Ideal S1x2048 .f32) (r : Fin 256) (j : Fin 2048) :
    normed z g b (ix2 r j) = Rows.norm (fun k => z (ix2 r k)) (fun k => g (ix2 0 k)) (fun k => b (ix2 0 k)) j := by
  pointwise [normed, k0_pay10, k0_pay11, k0_pay14]
  rw [squares_at]
  simp only [centred_at]
  rfl

/-- What the body stores is this normalisation, laid out with a leading axis. -/
theorem norm_at (z : FVec Ideal S256x2048 .f32) (g b : Vec Ideal S1x2048 .f32) (r : Fin 256) (j : Fin 2048) :
    k0_pay1 (F := Ideal) (k0_pay10 g) (k0_pay11 b) (centred z) (squares (centred z)) k0_pay14 (ix3 0 r j)
      = Rows.norm (fun k => z (ix2 r k)) (fun k => g (ix2 0 k)) (fun k => b (ix2 0 k)) j := by
  refine Eq.trans ?_ (normed_at z g b r j)
  show shapeCast S1x256x2048 (normed z g b) shapeCasts_S256x2048_S1x256x2048 (ix3 0 r j) = _
  pointwise

/-- The queries, entry by entry. -/
theorem queries_at (x w) (r : Fin 256) (j : Fin 2048) : k0_pay3 (F := Ideal) x w (ix2 r j)
    = ∑ k : Fin 2048, x (ix3 0 r k) * w (ix2 k j) := by
  pointwise [k0_pay3, k0_pay2]

/-- The four heads side by side, at column `u`, given what each holds of one row `f`. -/
theorem heads_at (o0 o1 o2 o3) (r : Fin 256) (f : Fin 2048 → EReal)
    (h0 : ∀ d : Fin 512, o0 (ix2 r d) = f ⟨d.val, by omega⟩)
    (h1 : ∀ d : Fin 512, o1 (ix2 r d) = f ⟨512 + d.val, by omega⟩)
    (h2 : ∀ d : Fin 512, o2 (ix2 r d) = f ⟨1024 + d.val, by omega⟩)
    (h3 : ∀ d : Fin 512, o3 (ix2 r d) = f ⟨1536 + d.val, by omega⟩) (u : Fin 2048) :
    heads o0 o1 o2 o3 (ix2 r u) = f u := by
  pointwise [heads]
  by_cases a : u.val < 512
  · exact (dif_pos a).trans (h0 ⟨u.val, a⟩)
  refine (dif_neg a).trans ?_
  by_cases b : u.val - 512 < 512
  · exact (dif_pos b).trans ((h1 ⟨u.val - 512, b⟩).trans (congrArg f (Fin.ext (by show 512 + (u.val - 512) = u.val; omega))))
  refine (dif_neg b).trans ?_
  by_cases c : u.val - 512 - 512 < 512
  · exact (dif_pos c).trans ((h2 ⟨u.val - 512 - 512, c⟩).trans (congrArg f (Fin.ext (by show 1024 + (u.val - 512 - 512) = u.val; omega))))
  exact (dif_neg c).trans ((h3 ⟨u.val - 512 - 512 - 512, by omega⟩).trans
      (congrArg f (Fin.ext (by show 1536 + (u.val - 512 - 512 - 512) = u.val; omega))))

/-- One head's output, entry by entry, from vectors that hold its columns of the queries, keys and values. -/
theorem head_at (q : FVec Ideal S256x512 .bf16) (k v : Vec Ideal S1x256x512 .f32) (r : Fin 256) (d : Fin 512) (u : Fin 2048)
    (qs : Fin 2048 → EReal) (ks vs : Fin 256 → Fin 2048 → EReal)
    (hq : ∀ e : Fin 512, q (ix2 r e) = qs (Rows.col u e)) (hk : ∀ (m : Fin 256) (e : Fin 512), k (ix3 0 m e) = ks m (Rows.col u e))
    (hv : ∀ m : Fin 256, v (ix3 0 m d) = vs m u) :
    k0_pay6 (scores q k) v (ix2 r d) = Rows.attend qs ks vs u := by
  rw [pay6_at]
  simp only [scores_at, hq, hk, hv]
  rfl

/-- The first head's columns of the queries. -/
theorem slice_at0 (q : FVec Ideal S256x2048 .f32) (r : Fin 256) (d : Fin 512) :
    extractStridedSlice S256x512 ![0, 0] q slices_S256x2048_o0_0_S256x512 (ix2 r d) = q (ix2 r ⟨d.val, by omega⟩) := by
  pointwise
/-- The second head's. -/
theorem slice_at1 (q : FVec Ideal S256x2048 .f32) (r : Fin 256) (d : Fin 512) :
    extractStridedSlice S256x512 ![0, 512] q slices_S256x2048_o0_512_S256x512 (ix2 r d) = q (ix2 r ⟨512 + d.val, by omega⟩) := by
  pointwise
/-- The third head's. -/
theorem slice_at2 (q : FVec Ideal S256x2048 .f32) (r : Fin 256) (d : Fin 512) :
    extractStridedSlice S256x512 ![0, 1024] q slices_S256x2048_o0_1024_S256x512 (ix2 r d) = q (ix2 r ⟨1024 + d.val, by omega⟩) := by
  pointwise
/-- The fourth head's. -/
theorem slice_at3 (q : FVec Ideal S256x2048 .f32) (r : Fin 256) (d : Fin 512) :
    k0_pay9 q (ix2 r d) = q (ix2 r ⟨1536 + d.val, by omega⟩) := by
  pointwise [k0_pay9]

/-- A load of 512 columns from column `o` on. -/
theorem load_at (o : Nat) (h) (x : Vec Ideal S1x256x2048 .f32) (m : Fin 256) (d : Fin 512) (u : Fin 2048) (e : u.val = o + d.val) :
    View.ld x (Rect.unit (s := S1x256x2048) ![0, 0, o] S1x256x512.size h) (ix3 0 m d) = x (ix3 0 m u) := by
  refine congrArg x (funext fun a => Fin.ext ?_)
  match a with
  | ⟨0, _⟩ => rfl
  | ⟨1, _⟩ => show 0 + 1 * m.val = m.val; omega
  | ⟨2, _⟩ => show o + 1 * d.val = u.val; omega

/-- What the body stores, entry by entry, from the blocks it reads. -/
theorem body_at (x k v : Vec Ideal S1x256x2048 .f32) (wq wo : Vec Ideal S2048x2048 .bf16) (g b : Vec Ideal S1x2048 .f32)
    (r : Fin 256) (j : Fin 2048) :
    out0_7 x k v wq wo g b (ix3 0 r j)
      = Rows.onto (fun j => x (ix3 0 r j))
          (Rows.times (Rows.attend (Rows.times (fun j => x (ix3 0 r j)) (fun i j => wq (ix2 i j)))
            (fun m j => k (ix3 0 m j)) (fun m j => v (ix3 0 m j))) (fun i j => wo (ix2 i j)))
          (fun j => g (ix2 0 j)) (fun j => b (ix2 0 j)) j := by
  unfold_out out0_7
  rw [View.canon_unit_zero Rows.zeros3]
  simp only [View.ld_unit_zero (S := S1x256x2048) Rows.zeros3, View.ld_unit_zero (S := S2048x2048) Rows.zeros2, View.ld_unit_zero (S := S1x2048) Rows.zeros2]
  rw [pay12_eq, pay13_eq, norm_at]
  refine congrArg (fun f => Rows.norm f _ _ j) (funext fun i => ?_)
  rw [onto_at]
  refine Ideal.add_congr (Ideal.mul_congr rfl ?_) (Finset.sum_congr rfl fun u _ => Ideal.mul_congr ?_ rfl)
  · pointwise [k0_pay2]
  · rw [pay4_eq, pay5_eq, pay7_eq]
    refine heads_at _ _ _ _ r _ (fun d => ?_) (fun d => ?_) (fun d => ?_) (fun d => ?_) u
    · refine head_at _ _ _ r d _ _ _ _ (fun e => ?_) (fun m e => ?_) (fun m => ?_)
      · refine (slice_at0 _ r e).trans ((queries_at x wq r _).trans (congrArg (Rows.times (fun j => x (ix3 0 r j)) (fun i j => wq (ix2 i j))) (Fin.ext ?_)))
        show e.val = 512 * ((d.val) / 512) + e.val; omega
      · exact load_at 0 _ k m e _ (by show 512 * (d.val / 512) + e.val = 0 + e.val; omega)
      · exact load_at 0 _ v m d _ (by show d.val = 0 + d.val; omega)
    · refine head_at _ _ _ r d _ _ _ _ (fun e => ?_) (fun m e => ?_) (fun m => ?_)
      · refine (slice_at1 _ r e).trans ((queries_at x wq r _).trans (congrArg (Rows.times (fun j => x (ix3 0 r j)) (fun i j => wq (ix2 i j))) (Fin.ext ?_)))
        show 512 + e.val = 512 * ((512 + d.val) / 512) + e.val; omega
      · exact load_at 512 _ k m e _ (by show 512 * ((512 + d.val) / 512) + e.val = 512 + e.val; omega)
      · exact load_at 512 _ v m d _ rfl
    · refine head_at _ _ _ r d _ _ _ _ (fun e => ?_) (fun m e => ?_) (fun m => ?_)
      · refine (slice_at2 _ r e).trans ((queries_at x wq r _).trans (congrArg (Rows.times (fun j => x (ix3 0 r j)) (fun i j => wq (ix2 i j))) (Fin.ext ?_)))
        show 1024 + e.val = 512 * ((1024 + d.val) / 512) + e.val; omega
      · exact load_at 1024 _ k m e _ (by show 512 * ((1024 + d.val) / 512) + e.val = 1024 + e.val; omega)
      · exact load_at 1024 _ v m d _ rfl
    · refine head_at _ _ _ r d _ _ _ _ (fun e => ?_) (fun m e => ?_) (fun m => ?_)
      · refine (slice_at3 _ r e).trans ((queries_at x wq r _).trans (congrArg (Rows.times (fun j => x (ix3 0 r j)) (fun i j => wq (ix2 i j))) (Fin.ext ?_)))
        show 1536 + e.val = 512 * ((1536 + d.val) / 512) + e.val; omega
      · exact load_at 1536 _ k m e _ (by show 512 * ((1536 + d.val) / 512) + e.val = 1536 + e.val; omega)
      · exact load_at 1536 _ v m d _ rfl

variable (m : (ℓ : Loc nD τ sig) → Buf (Elt Ideal) ℓ) (ρ : Dev nD → PrngReg)

/-- The reference's result at the kernel's arguments. -/
abbrev want (c : Dev nD) : Buf (Elt Ideal) ((c : Thread nD τ).loc main_v4) :=
  Cert.ReferenceIdeal.Read.val_main_v50 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- The index maps: point `t` is row block `t % 16` of batch `t / 16`. -/
theorem idx : ∀ t : Fin cfg0.N,
    (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 1)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = t.val / 16 ∧ win0_7.index t 1 = t.val % 16 ∧ win0_7.index t 2 = 0) :=
  (by decide +kernel : ∀ t : Fin grid0.N, _)

/-- The query weight the call is given is the argument. -/
theorem V_wq (c : Dev nD) : V m c main_v0 = m ((c : Thread nD τ).loc main_arg2) := by
  show StableHlo.after hostOps0 _ _ = _
  unfold hostOps0
  after_results
  rfl
/-- So is the output weight. -/
theorem V_wo (c : Dev nD) : V m c main_v1 = m ((c : Thread nD τ).loc main_arg3) := by
  show StableHlo.after hostOps0 _ _ = _
  unfold hostOps0
  after_results
  rfl
/-- The gain is the argument as one row. -/
theorem V_g (c : Dev nD) : V m c main_v2 = shapeCast S1x2048 (m ((c : Thread nD τ).loc main_arg4)) shapeCasts_S2048_S1x2048 := by
  show StableHlo.after hostOps0 _ _ = _
  unfold hostOps0
  after_results
  rfl
/-- So is the offset. -/
theorem V_b (c : Dev nD) : V m c main_v3 = shapeCast S1x2048 (m ((c : Thread nD τ).loc main_arg5)) shapeCasts_S2048_S1x2048 := by
  show StableHlo.after hostOps0 _ _ = _
  unfold hostOps0
  after_results
  rfl

/-- The rows of the layer's input that point `t` reads. -/
theorem x_at (c : Dev nD) (t : Fin cfg0.N) (r : Fin 256) (k : Fin 2048) (h0 : t.val / 16 < 2) (h1 : t.val % 16 * 256 + r.val < 4096) :
    iblk m c 0 t (ix3 0 r k) = m ((c : Thread nD τ).loc main_arg0) (ix3 ⟨t.val / 16, h0⟩ ⟨t.val % 16 * 256 + r.val, h1⟩ k) := by
  show V m c main_arg0 ((win0_0.blk t).view.emb (ix3 0 r k)) = _
  rw [V_main_arg0]
  refine congrArg _ (funext fun a => Fin.ext ?_)
  match a with
  | ⟨0, _⟩ => show win0_0.index t 0 * 1 + 1 * 0 = t.val / 16; rw [(idx t).1.1]; omega
  | ⟨1, _⟩ => show win0_0.index t 1 * 256 + 1 * r.val = t.val % 16 * 256 + r.val; rw [(idx t).1.2.1]; omega
  | ⟨2, _⟩ => show win0_0.index t 2 * 2048 + 1 * k.val = k.val; rw [(idx t).1.2.2]; omega

/-- The keys that point `t` reads. -/
theorem k_at (c : Dev nD) (t : Fin cfg0.N) (r : Fin 256) (k : Fin 2048) (h0 : t.val / 16 < 2) :
    iblk m c 1 t (ix3 0 r k) = m ((c : Thread nD τ).loc main_arg1) (ix3 ⟨t.val / 16, h0⟩ r ⟨k.val, by omega⟩) := by
  show V m c main_arg1 ((win0_1.blk t).view.emb (ix3 0 r k)) = _
  rw [V_main_arg1]
  refine congrArg _ (funext fun a => Fin.ext ?_)
  match a with
  | ⟨0, _⟩ => show win0_1.index t 0 * 1 + 1 * 0 = t.val / 16; rw [(idx t).2.1.1]; omega
  | ⟨1, _⟩ => show win0_1.index t 1 * 256 + 1 * r.val = r.val; rw [(idx t).2.1.2.1]; omega
  | ⟨2, _⟩ => show win0_1.index t 2 * 2048 + 1 * k.val = k.val; rw [(idx t).2.1.2.2]; omega

/-- The values that point `t` reads. -/
theorem v_at (c : Dev nD) (t : Fin cfg0.N) (r : Fin 256) (k : Fin 2048) (h0 : t.val / 16 < 2) :
    iblk m c 2 t (ix3 0 r k) = m ((c : Thread nD τ).loc main_arg1) (ix3 ⟨t.val / 16, h0⟩ r ⟨2048 + k.val, by omega⟩) := by
  show V m c main_arg1 ((win0_2.blk t).view.emb (ix3 0 r k)) = _
  rw [V_main_arg1]
  refine congrArg _ (funext fun a => Fin.ext ?_)
  match a with
  | ⟨0, _⟩ => show win0_2.index t 0 * 1 + 1 * 0 = t.val / 16; rw [(idx t).2.2.1.1]; omega
  | ⟨1, _⟩ => show win0_2.index t 1 * 256 + 1 * r.val = r.val; rw [(idx t).2.2.1.2.1]; omega
  | ⟨2, _⟩ => show win0_2.index t 2 * 2048 + 1 * k.val = 2048 + k.val; rw [(idx t).2.2.1.2.2]; omega

/-- The query weights, whole at every point. -/
theorem wq_at (c : Dev nD) (t : Fin cfg0.N) (i j : Fin 2048) :
    iblk m c 3 t (ix2 i j) = m ((c : Thread nD τ).loc main_arg2) (ix2 i j) := by
  show V m c main_v0 ((win0_3.blk t).view.emb (ix2 i j)) = _
  rw [V_wq]
  refine congrArg _ (funext fun a => Fin.ext ?_)
  match a with
  | ⟨0, _⟩ => show win0_3.index t 0 * 2048 + 1 * i.val = i.val; rw [(idx t).2.2.2.1.1]; omega
  | ⟨1, _⟩ => show win0_3.index t 1 * 2048 + 1 * j.val = j.val; rw [(idx t).2.2.2.1.2]; omega

/-- The output weights, whole at every point. -/
theorem wo_at (c : Dev nD) (t : Fin cfg0.N) (i j : Fin 2048) :
    iblk m c 4 t (ix2 i j) = m ((c : Thread nD τ).loc main_arg3) (ix2 i j) := by
  show V m c main_v1 ((win0_4.blk t).view.emb (ix2 i j)) = _
  rw [V_wo]
  refine congrArg _ (funext fun a => Fin.ext ?_)
  match a with
  | ⟨0, _⟩ => show win0_4.index t 0 * 2048 + 1 * i.val = i.val; rw [(idx t).2.2.2.2.1.1]; omega
  | ⟨1, _⟩ => show win0_4.index t 1 * 2048 + 1 * j.val = j.val; rw [(idx t).2.2.2.2.1.2]; omega

/-- A vector laid out as one row, read at a column. -/
theorem row_at (z : FVec Ideal S2048 .f32) (j : Fin 2048) : shapeCast S1x2048 z shapeCasts_S2048_S1x2048 (ix2 0 j) = z (ix1 j) := by
  pointwise

/-- The gain of the normalisation. -/
theorem g_at (c : Dev nD) (t : Fin cfg0.N) (j : Fin 2048) :
    iblk m c 5 t (ix2 0 j) = m ((c : Thread nD τ).loc main_arg4) (ix1 j) := by
  show V m c main_v2 ((win0_5.blk t).view.emb (ix2 0 j)) = _
  rw [V_g]
  refine Eq.trans (congrArg _ (funext fun a => Fin.ext ?_)) (row_at _ j)
  match a with
  | ⟨0, _⟩ => show win0_5.index t 0 * 1 + 1 * 0 = 0; rw [(idx t).2.2.2.2.2.1.1]
  | ⟨1, _⟩ => show win0_5.index t 1 * 2048 + 1 * j.val = j.val; rw [(idx t).2.2.2.2.2.1.2]; omega

/-- The offset of the normalisation. -/
theorem b_at (c : Dev nD) (t : Fin cfg0.N) (j : Fin 2048) :
    iblk m c 6 t (ix2 0 j) = m ((c : Thread nD τ).loc main_arg5) (ix1 j) := by
  show V m c main_v3 ((win0_6.blk t).view.emb (ix2 0 j)) = _
  rw [V_b]
  refine Eq.trans (congrArg _ (funext fun a => Fin.ext ?_)) (row_at _ j)
  match a with
  | ⟨0, _⟩ => show win0_6.index t 0 * 1 + 1 * 0 = 0; rw [(idx t).2.2.2.2.2.2.1.1]
  | ⟨1, _⟩ => show win0_6.index t 1 * 2048 + 1 * j.val = j.val; rw [(idx t).2.2.2.2.2.2.1.2]; omega

/-- What point `t` writes back is block `t` of the reference's result. -/
theorem flushed_eq (c : Dev nD) (t : Fin cfg0.N) :
    (dats m 0 c).flushed 7 t = (win0_7.blk t).view.read (Elt Ideal) (want m c) := by
  rw [Value.flushed7]
  have ht : t.val < 32 := t.isLt.trans_eq N_0
  funext y
  obtain ⟨r, j, rfl⟩ : ∃ (r : Fin 256) (j : Fin 2048), y = ix3 0 r j :=
    ⟨y 1, y 2, (eq_ix3 y).trans (by rw [show y 0 = (0 : Fin 1) from Fin.ext (by have := (y 0).isLt; exact Nat.lt_one_iff.mp this)])⟩
  have hr := r.isLt
  show out0_7 (iblk m c 0 t) (iblk m c 1 t) (iblk m c 2 t) (iblk m c 3 t) (iblk m c 4 t) (iblk m c 5 t) (iblk m c 6 t) (ix3 0 r j)
    = want m c ((win0_7.blk t).view.emb (ix3 0 r j))
  have e : (win0_7.blk t).view.emb (ix3 0 r j) = ix3 (⟨t.val / 16, by omega⟩ : Fin 2) (⟨t.val % 16 * 256 + r.val, by omega⟩ : Fin 4096) j := by
    refine funext fun a => Fin.ext ?_
    match a with
    | ⟨0, _⟩ => show win0_7.index t 0 * 1 + 1 * 0 = t.val / 16; rw [(idx t).2.2.2.2.2.2.2.1]; omega
    | ⟨1, _⟩ => show win0_7.index t 1 * 256 + 1 * r.val = t.val % 16 * 256 + r.val; rw [(idx t).2.2.2.2.2.2.2.2.1]; omega
    | ⟨2, _⟩ => show win0_7.index t 2 * 2048 + 1 * j.val = j.val; rw [(idx t).2.2.2.2.2.2.2.2.2]; omega
  unfold want
  rw [e, body_at, Cert.ReferenceIdeal.Entry.result]
  have hx : (fun k : Fin 2048 => iblk m c 0 t (ix3 0 r k)) = _ := funext fun k => x_at m c t r k (by omega) (by omega)
  have hk : (fun (n : Fin 256) (k : Fin 2048) => iblk m c 1 t (ix3 0 n k)) = _ := funext fun n => funext fun k => k_at m c t n k (by omega)
  have hv : (fun (n : Fin 256) (k : Fin 2048) => iblk m c 2 t (ix3 0 n k)) = _ := funext fun n => funext fun k => v_at m c t n k (by omega)
  have hwq : (fun i j : Fin 2048 => iblk m c 3 t (ix2 i j)) = _ := funext fun i => funext fun j => wq_at m c t i j
  have hwo : (fun i j : Fin 2048 => iblk m c 4 t (ix2 i j)) = _ := funext fun i => funext fun j => wo_at m c t i j
  have hg : (fun j : Fin 2048 => iblk m c 5 t (ix2 0 j)) = _ := funext fun j => g_at m c t j
  have hb : (fun j : Fin 2048 => iblk m c 6 t (ix2 0 j)) = _ := funext fun j => b_at m c t j
  rw [hx, hk, hv, hwq, hwo, hg, hb]

/-- The result array's blocks tile it. -/
theorem cover (i : S2x4096x2048.Idx) :
    ∃ t : Fin cfg0.N, (cfg0.win 7).flush t = true ∧ i ∈ ((cfg0.win 7).blk t).view.set := by
  have h0 : (i 0 : Nat) < 2 := (i 0).isLt
  have h1 : (i 1 : Nat) < 4096 := (i 1).isLt
  have h2 : (i 2 : Nat) < 2048 := (i 2).isLt
  have hN : cfg0.N = 32 := N_0
  refine ⟨⟨(i 0 : Nat) * 16 + (i 1 : Nat) / 256, by omega⟩, flush0_7 _, ?_⟩
  generalize ht : (⟨(i 0 : Nat) * 16 + (i 1 : Nat) / 256, by omega⟩ : Fin cfg0.N) = t
  have hv : t.val = (i 0 : Nat) * 16 + (i 1 : Nat) / 256 := by rw [← ht]
  show i ∈ ((View.whole main_v4).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1
              rw [(idx t).2.2.2.2.2.2.2.1]; omega
  | ⟨1, _⟩ => show win0_7.index t 1 * 256 ≤ (i 1 : Nat) ∧ (i 1 : Nat) < win0_7.index t 1 * 256 + 256
              rw [(idx t).2.2.2.2.2.2.2.2.1]; omega
  | ⟨2, _⟩ => show win0_7.index t 2 * 2048 ≤ (i 2 : Nat) ∧ (i 2 : Nat) < win0_7.index t 2 * 2048 + 2048
              rw [(idx t).2.2.2.2.2.2.2.2.2]; omega

/-- So the result array ends holding the reference's result. -/
theorem final (c : Dev nD) : (dats m 0 c).arrAt 7 cfg0.N = want m c :=
  (dats m 0 c).arrAt_eq_of_cover 7 (want m c) (fun t _ => flushed_eq m c t) cover

end Cert.KernelIdeal.Attn

namespace Cert.Proof.Attn

/-- The kernel leaves its arguments as they were. -/
theorem frame_p : Cert.quiescent_Kernel := fun m ρ _ => Cert.Kernel.Gen.frame m ρ
/-- So does its idealization. -/
theorem frame_pi : Cert.quiescent_KernelIdeal := fun m ρ _ => Cert.KernelIdeal.Gen.frame m ρ
/-- So does the reference, whose run is read at its arguments; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The idealization rewrites nothing but the number type. -/
theorem preserves : Cert.preserves_Kernel_KernelIdeal := trivial

/-- From arguments that agree, the fused attention and the plain one leave the same array. -/
theorem algebraic : Cert.algebraic_KernelIdeal_ReferenceIdeal := by
  intro m ρ m' ρ' _ hagree
  refine ⟨fun c => Cert.KernelIdeal.Attn.want m c, ?_, ?_⟩
  · exact (θ_run Cert.KernelIdeal.defs _ _).mono
      (fun _ h c => ⟨(h c).1.trans (Cert.KernelIdeal.Attn.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v50_eq, (hagree c).1, (hagree c).2.1, (hagree c).2.2.1, (hagree c).2.2.2.1, (hagree c).2.2.2.2.1, (hagree c).2.2.2.2.2]

end Cert.Proof.Attn

end
-- ==== Proof.InEvenRun.lean ====
/-
  The even layers' input projection run at any float values: the body on whole buffers, the proof data of its pipeline,
  whose weight and result blocks reach past their arrays' edge in the last column block, and the frame.
-/
module

public import proofs.«01_k».proof.Proof.Gen.InEven.Frame
public import proofs.«01_k».proof.Proof.Gen.InEven.Skeleton
public import Idealize.ShloMosaic.Lib.Pipeline.Value

@[expose] public section

set_option maxRecDepth 16384

noncomputable section

namespace Cert.Proof.InEvenRun

open Cert.InEven Cert.InEven.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole buffers -/

/-- The whole of each staging buffer, as the body addresses it. -/
abbrev rx : Rect S1024x2048 := Rect.unit (s := S1024x2048) ![0, 0] S1024x2048.size inb_S1024x2048_S1024x2048_0_0
abbrev rw : Rect S2048x512 := Rect.unit (s := S2048x512) ![0, 0] S2048x512.size inb_S2048x512_S2048x512_0_0
abbrev ro : Rect S1024x512 := Rect.unit (s := S1024x512) ![0, 0] S1024x512.size inb_S1024x512_S1024x512_0_0

/-- What the body stores: the product of the two buffers it reads. -/
def product (x : Vec F S1024x2048 .f32) (w : Vec F S2048x512 .bf16) : Vec F S1024x512 .f32 :=
  View.canon [⟨ro, k0_pay1 (View.ld x rx) (View.ld w rw)⟩]

/-- Its one store fills the result's buffer. -/
theorem covers (p : Vec F S1024x512 .f32) (y : S1024x512.Idx) : ∃ pc ∈ ([⟨ro, p⟩] : List (View.Piece (Elt F) S1024x512 .f32)), y ∈ pc.1.set :=
  View.cover_of_tiled [⟨ro, p⟩] S1024x512.size (by rfl) y

set_option maxHeartbeats 1000000 in
/-- The body on whole staging memrefs: the two it reads end as they were, the result's at their product. -/
theorem body_runs (c : Dev nD) (i : grid0.Coords) (arg2 : Memref sig .tc .vmem S1024x2048 .f32) (harg2 : arg2.IsWhole) (arg3 : Memref sig .tc .vmem S2048x512 .bf16) (harg3 : arg3.IsWhole)
    (arg4 : Memref sig .tc .vmem S1024x512 .f32) (harg4 : arg4.IsWhole) (x : Vec F S1024x2048 .f32) (w : Vec F S2048x512 .bf16) (K : PUnit → sProp 𝕄) :
    iprop(owns (c : Thread nD τ) arg2 fullShare x ∗ owns (c : Thread nD τ) arg3 fullShare w ∗ (∃ d, owns (c : Thread nD τ) arg4 fullShare d)
        ∗ (iprop(owns (c : Thread nD τ) arg2 fullShare x ∗ owns (c : Thread nD τ) arg3 fullShare w ∗ owns (c : Thread nD τ) arg4 fullShare (product x w)) -∗ K ⟨⟩))
      ⊢ wp frame (wpE (defs₀ (F := F)) Variants.none c none) Set.univ (cc0_dense_matmul i arg2 harg2 arg3 harg3 arg4 harg4) K := by
  rw [cc0_dense_matmul_eq_skeleton]; unfold cc0_dense_matmul_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  iexists _; isplitr
  swap; · iexact H2
  ipureintro
  exact View.read_writes_eq_canon _ _ _ (covers _)

/-! ## The proof data -/

/-- The weight buffer at point `t`: the block's columns inside the array, zeros past the array's edge. -/
def wfull (c : Dev nD) (t : Fin cfg0.N) : Vec F S2048x512 .bf16 :=
  win0_1.fill (grid0.coords t) (fun _ => Scalar.ofBits .bf16 0#16) (iblk m c 1 t)

/-- The proof data: `x`'s buffer at its block, the weight's at `wfull`, the result's at their product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfull m c t
    | ⟨2, _⟩ => product (iblk m c 0 t) (wfull m c t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by dsimp only [dats]

/-- What the data says of each buffer after the body. -/
theorem after_0 (c : Dev nD) (t : Fin cfg0.N) : (dats m 0 c).after 0 t = iblk m c 0 t := by dsimp only [dats]
theorem after_1 (c : Dev nD) (t : Fin cfg0.N) : (dats m 0 c).after 1 t = wfull m c t := by dsimp only [dats]
theorem after_2 (c : Dev nD) (t : Fin cfg0.N) : (dats m 0 c).after 2 t = product (iblk m c 0 t) (wfull m c t) := by dsimp only [dats]

/-- The body finds `x`'s block in its buffer, -/
theorem before_0 (c : Dev nD) (t : Fin cfg0.N) (d) : (dats m 0 c).before 0 t d = iblk m c 0 t :=
  before0_0_of m (dats m 0 c) (A_eq m c 0) (after_0 m c) t d
/-- and, in the weight's, the block's columns inside the array and anything past its edge. -/
theorem before_1 (c : Dev nD) (t : Fin cfg0.N) (d) :
    (dats m 0 c).before 1 t d = win0_1.fill (grid0.coords t) d (iblk m c 1 t) := by
  unfold Dat.before; rw [if_pos (fetch0_1 t)]; rfl

/-- The columns inside the array are what the data says of them. -/
theorem cut_wfull (c : Dev nD) (t : Fin cfg0.N) : win0_1.cut (grid0.coords t) (wfull m c t) = iblk m c 1 t :=
  win0_1.cut_fill _ _ _

/-- The row of the body table at point `t` is the body there. -/
theorem row_eq (t : Fin cfg0.N) : defs₀ (F := F) .tc cfg0.body (cfg0.bodyArgs t (cfg0.slots t)) = bodyAt0 t := by
  unfold defs₀; rw [Defs.onTc_tc]

/-! ## The body at every point

  The result's buffer is not described: past the edge it depends on words nothing names, and how a product of rounded
  words depends on the columns it does not return is not fixed by the operation. -/

/-- The result's window is the one not described. -/
def fgt : Fin cfg0.W → Bool := fun w => w.val == 2

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ X, owns (c : Thread nD τ) (st0_2 t) fullShare X))

/-- The body at point `t`. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl, after_0, after_1, cut_wfull]
  iintro ⟨HΦ, Ho, ⟨%d0, H0⟩, ⟨%d1, H1⟩, H2⟩
  iapply (body_runs c (grid0.coords t) _ _ _ _ _ _ (iblk m c 0 t) (win0_1.fill (grid0.coords t) d1 (iblk m c 1 t)) _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexists d1; iexact H1
  iexists _; iexact H2

/-- So the body keeps its obligation at every point. -/
theorem body_obligation (c : Dev nD) : BodyObligationLoose (dats (F := F) m 0 c) (defs₀ (F := F)) Variants.none () Set.univ fgt := fun t => by
  rw [bigSep_W0, bigSep_W0, row_eq]
  exact triple_restated (body_at m c t) rfl .rfl fun _ => .rfl

/-! ## The run -/

set_option backward.isDefEq.respectTransparency.types false in
set_option maxHeartbeats 800000 in
/-- The run of @main: each input array ends as the region found it, so does every buffer no window stages, and every
    semaphore counter is zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: both argument arrays end as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c)⟩, h.2⟩) (run_main m ρ)

end Cert.Proof.InEvenRun

end
-- ==== Proof.InEvenIdealRun.lean ====
/-
  The idealized even layers' input projection run: the body on whole buffers, the proof data of its pipeline and the run
  of @main, for values at which a product's columns inside the array do not depend on the weight's columns past it.
-/
module

public import proofs.«01_k».proof.Proof.Gen.InEvenIdeal.Frame
public import proofs.«01_k».proof.Proof.Gen.InEvenIdeal.Skeleton
public import Idealize.ShloMosaic.Lib.Pipeline.Value

@[expose] public section

set_option maxRecDepth 16384

noncomputable section

namespace Cert.Proof.InEvenIdealRun

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole buffers -/

/-- The whole of each staging buffer, as the body addresses it. -/
abbrev rx : Rect S1024x2048 := Rect.unit (s := S1024x2048) ![0, 0] S1024x2048.size inb_S1024x2048_S1024x2048_0_0
abbrev rw : Rect S2048x512 := Rect.unit (s := S2048x512) ![0, 0] S2048x512.size inb_S2048x512_S2048x512_0_0
abbrev ro : Rect S1024x512 := Rect.unit (s := S1024x512) ![0, 0] S1024x512.size inb_S1024x512_S1024x512_0_0

/-- What the body stores: the product of the two buffers it reads. -/
def product (x : Vec F S1024x2048 .f32) (w : Vec F S2048x512 .bf16) : Vec F S1024x512 .f32 :=
  View.canon [⟨ro, k0_pay1 (View.ld x rx) (View.ld w rw)⟩]

/-- Its one store fills the result's buffer. -/
theorem covers (p : Vec F S1024x512 .f32) (y : S1024x512.Idx) : ∃ pc ∈ ([⟨ro, p⟩] : List (View.Piece (Elt F) S1024x512 .f32)), y ∈ pc.1.set :=
  View.cover_of_tiled [⟨ro, p⟩] S1024x512.size (by rfl) y

set_option maxHeartbeats 1000000 in
/-- The body on whole staging memrefs: the two it reads end as they were, the result's at their product. -/
theorem body_runs (c : Dev nD) (i : grid0.Coords) (arg2 : Memref sig .tc .vmem S1024x2048 .f32) (harg2 : arg2.IsWhole) (arg3 : Memref sig .tc .vmem S2048x512 .bf16) (harg3 : arg3.IsWhole)
    (arg4 : Memref sig .tc .vmem S1024x512 .f32) (harg4 : arg4.IsWhole) (x : Vec F S1024x2048 .f32) (w : Vec F S2048x512 .bf16) (K : PUnit → sProp 𝕄) :
    iprop(owns (c : Thread nD τ) arg2 fullShare x ∗ owns (c : Thread nD τ) arg3 fullShare w ∗ (∃ d, owns (c : Thread nD τ) arg4 fullShare d)
        ∗ (iprop(owns (c : Thread nD τ) arg2 fullShare x ∗ owns (c : Thread nD τ) arg3 fullShare w ∗ owns (c : Thread nD τ) arg4 fullShare (product x w)) -∗ K ⟨⟩))
      ⊢ wp frame (wpE (defs₀ (F := F)) Variants.none c none) Set.univ (cc0_dense_matmul i arg2 harg2 arg3 harg3 arg4 harg4) K := by
  rw [cc0_dense_matmul_eq_skeleton]; unfold cc0_dense_matmul_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  iexists _; isplitr
  swap; · iexact H2
  ipureintro
  exact View.read_writes_eq_canon _ _ _ (covers _)

/-! ## The proof data -/

/-- The weight buffer at point `t`: the block's columns inside the array, zeros past the array's edge. -/
def wfull (c : Dev nD) (t : Fin cfg0.N) : Vec F S2048x512 .bf16 :=
  win0_1.fill (grid0.coords t) (fun _ => Scalar.ofBits .bf16 0#16) (iblk m c 1 t)

/-- The proof data: `x`'s buffer at its block, the weight's at `wfull`, the result's at their product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfull m c t
    | ⟨2, _⟩ => product (iblk m c 0 t) (wfull m c t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by dsimp only [dats]

/-- What the data says of each buffer after the body. -/
theorem after_0 (c : Dev nD) (t : Fin cfg0.N) : (dats m 0 c).after 0 t = iblk m c 0 t := by dsimp only [dats]
theorem after_1 (c : Dev nD) (t : Fin cfg0.N) : (dats m 0 c).after 1 t = wfull m c t := by dsimp only [dats]
theorem after_2 (c : Dev nD) (t : Fin cfg0.N) : (dats m 0 c).after 2 t = product (iblk m c 0 t) (wfull m c t) := by dsimp only [dats]

/-- The body finds `x`'s block in its buffer, -/
theorem before_0 (c : Dev nD) (t : Fin cfg0.N) (d) : (dats m 0 c).before 0 t d = iblk m c 0 t :=
  before0_0_of m (dats m 0 c) (A_eq m c 0) (after_0 m c) t d
/-- and, in the weight's, the block's columns inside the array and anything past its edge. -/
theorem before_1 (c : Dev nD) (t : Fin cfg0.N) (d) :
    (dats m 0 c).before 1 t d = win0_1.fill (grid0.coords t) d (iblk m c 1 t) := by
  unfold Dat.before; rw [if_pos (fetch0_1 t)]; rfl

/-- The columns inside the array are what the data says of them. -/
theorem cut_wfull (c : Dev nD) (t : Fin cfg0.N) : win0_1.cut (grid0.coords t) (wfull m c t) = iblk m c 1 t :=
  win0_1.cut_fill _ _ _

/-- The row of the body table at point `t` is the body there. -/
theorem row_eq (t : Fin cfg0.N) : defs₀ (F := F) .tc cfg0.body (cfg0.bodyArgs t (cfg0.slots t)) = bodyAt0 t := by
  unfold defs₀; rw [Defs.onTc_tc]

/-! ## The body at every point -/

/-- The product's columns inside the array do not depend on the weight's columns past it. -/
def EdgeFree : Prop := ∀ (c : Dev nD) (t : Fin cfg0.N) (d : Vec F S2048x512 .bf16),
  win0_2.cut (grid0.coords t) (product (iblk m c 0 t) (win0_1.fill (grid0.coords t) d (iblk m c 1 t)))
    = win0_2.cut (grid0.coords t) (product (iblk m c 0 t) (wfull m c t))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the weight's and the result's buffers on the columns inside the array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

/-- The body at point `t`. -/
theorem body_at (hE : EdgeFree m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl, after_0, after_1, after_2, cut_wfull]
  iintro ⟨HΦ, Ho, ⟨%d0, H0⟩, ⟨%d1, H1⟩, ⟨%d2, H2⟩⟩
  iapply (body_runs c (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists (product (iblk m c 0 t) (win0_1.fill (grid0.coords t) d1 (iblk m c 1 t)))
  rw [win0_2.fill_congr_cut (grid0.coords t) (hE c t d1)]
  iexact H2

/-- So the body keeps its obligation at every point. -/
theorem body_obligation (hE : EdgeFree m) (c : Dev nD) : BodyObligationLoose (dats (F := F) m 0 c) (defs₀ (F := F)) Variants.none () Set.univ := fun t => by
  rw [bigSep_W0, bigSep_W0, row_eq]
  exact triple_restated (body_at m hE c t) rfl .rfl fun _ => .rfl

/-! ## The run -/

set_option backward.isDefEq.respectTransparency.types false in
set_option maxHeartbeats 800000 in
/-- The run of @main: every array ends at what the points' blocks leave, every buffer no window stages as the region
    found it, and every semaphore counter at zero. -/
theorem run_main (hE : EdgeFree m) : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => body_obligation m hE c) (hshare := fun c => (dats m 0 c).share_full fun _ => rfl)
    (howed := fun _ _ => rfl) (V := V m) (hmain := hmain m Variants.none) (hA := A_eq m) (hΦ := fun _ _ => rfl)

/-- The run, read: the result array ends at what the points' blocks leave, both argument arrays as they were, every
    semaphore counter at zero. -/
theorem run_all (hE : EdgeFree m) : θ_run defs (onTc (τ := τ) (main (F := F))) ⟨m, fun _ => 0, ρ⟩ (fun r => (∀ c : Dev nD,
      r.2.mem ((c.tc : Thread nD τ).loc main_v1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 2,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_main m ρ hE)

end Cert.Proof.InEvenIdealRun

end
-- ==== Proof.InEven.lean ====
/- The even layers' input projection, whose last block of weight columns reaches past the array's edge: what the tiled
   product leaves in its result array is the host's product. -/
module

public import proofs.«01_k».proof.Defs
public import proofs.«01_k».proof.Proof.Rows
public import proofs.«01_k».proof.Proof.InEvenRun
public import proofs.«01_k».proof.Proof.InEvenIdealRun
public import proofs.«01_k».proof.Proof.Gen.InEvenRefIdeal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.InEvenIdeal.RefValue

open Cert.InEvenIdeal Cert.InEvenIdeal.Gen
open Cert.Proof.InEvenIdealRun (product wfull dats after_2 EdgeFree)

variable (m : (ℓ : Loc nD τ sig) → Buf (Elt Ideal) ℓ) (ρ : Dev nD → PrngReg)

/-- The host's product of the two argument arrays. -/
abbrev prod (c : Dev nD) : Buf (Elt Ideal) ((c : Thread nD τ).loc main_v1) :=
  Cert.InEvenRefIdeal.Read.val_main_v0 (F := Ideal) (m ((c : Thread nD τ).loc main_arg0)) (m ((c : Thread nD τ).loc main_arg1))

/-- Which block of each array point `t` works on: row block `t / 15`, column block `t % 15`. -/
theorem idx : ∀ t : Fin cfg0.N, win0_0.index t 0 = t.val / 15 ∧ win0_0.index t 1 = 0 ∧ win0_1.index t 0 = 0
    ∧ win0_1.index t 1 = t.val % 15 ∧ win0_2.index t 0 = t.val / 15 ∧ win0_2.index t 1 = t.val % 15 :=
  (by decide +kernel : ∀ t : Fin grid0.N, win0_0.index t 0 = t.val / 15 ∧ win0_0.index t 1 = 0 ∧ win0_1.index t 0 = 0
    ∧ win0_1.index t 1 = t.val % 15 ∧ win0_2.index t 0 = t.val / 15 ∧ win0_2.index t 1 = t.val % 15)

/-- How much of its block a transfer at point `t` moves: all rows, and the columns before column 7440 of the array. -/
theorem size : ∀ t : Fin cfg0.N, win0_1.xsize (grid0.coords t) 0 = 2048 ∧ win0_1.xsize (grid0.coords t) 1 = min 512 (7440 - t.val % 15 * 512)
    ∧ win0_2.xsize (grid0.coords t) 0 = 1024 ∧ win0_2.xsize (grid0.coords t) 1 = min 512 (7440 - t.val % 15 * 512) :=
  (by decide +kernel : ∀ t : Fin grid0.N, win0_1.xsize (grid0.coords t) 0 = 2048 ∧ win0_1.xsize (grid0.coords t) 1 = min 512 (7440 - t.val % 15 * 512)
    ∧ win0_2.xsize (grid0.coords t) 0 = 1024 ∧ win0_2.xsize (grid0.coords t) 1 = min 512 (7440 - t.val % 15 * 512))

/-- The weights the call is given are the weight argument. -/
theorem V_w (c : Dev nD) : V m c main_v0 = m ((c : Thread nD τ).loc main_arg1) := by
  show StableHlo.after hostOps0 _ _ = _
  unfold hostOps0
  after_results
  rfl

/-- The block of rows point `t` reads. -/
theorem x_at (c : Dev nD) (t : Fin cfg0.N) (r : Fin 1024) (k : Fin 2048) (h : t.val / 15 * 1024 + r.val < 8192) :
    iblk m c 0 t (ix2 r k) = m ((c : Thread nD τ).loc main_arg0) (ix2 ⟨t.val / 15 * 1024 + r.val, h⟩ k) := by
  show V m c main_arg0 ((win0_0.blk t).view.emb (ix2 r k)) = _
  rw [V_main_arg0]
  refine congrArg _ (funext fun a => Fin.ext ?_)
  match a with
  | ⟨0, _⟩ => show win0_0.index t 0 * 1024 + 1 * r.val = t.val / 15 * 1024 + r.val; rw [(idx t).1]; omega
  | ⟨1, _⟩ => show win0_0.index t 1 * 2048 + 1 * k.val = k.val; rw [(idx t).2.1]; omega

/-- The weight buffer at a column inside the array, whatever lies past it. -/
theorem w_at (c : Dev nD) (t : Fin cfg0.N) (d : Vec Ideal S2048x512 .bf16) (k : Fin 2048) (j : Fin 512) (h : t.val % 15 * 512 + j.val < 7440) :
    win0_1.fill (grid0.coords t) d (iblk m c 1 t) (ix2 k j) = m ((c : Thread nD τ).loc main_arg1) (ix2 k ⟨t.val % 15 * 512 + j.val, h⟩) := by
  have hk := k.isLt
  have hj := j.isLt
  have hm : win0_1.moved (grid0.coords t) (ix2 k j) = true := (win0_1.moved_iff _ _).mpr fun a => by
    match a with
    | ⟨0, _⟩ => show k.val < win0_1.xsize (grid0.coords t) 0; rw [(size t).1]; omega
    | ⟨1, _⟩ => show j.val < win0_1.xsize (grid0.coords t) 1; rw [(size t).2.1]; omega
  unfold Pipeline.Window.fill
  rw [dif_pos hm]
  show V m c main_v0 ((win0_1.blk t).view.emb _) = _
  rw [V_w]
  refine congrArg _ (funext fun a => Fin.ext ?_)
  match a with
  | ⟨0, _⟩ => show win0_1.index t 0 * 2048 + 1 * k.val = k.val; rw [(idx t).2.2.1]; omega
  | ⟨1, _⟩ => show win0_1.index t 1 * 512 + 1 * j.val = t.val % 15 * 512 + j.val; rw [(idx t).2.2.2.1]; omega

/-- The body's product at a column inside the array is the host's, whatever lies past the edge. -/
theorem product_at (c : Dev nD) (t : Fin cfg0.N) (d : Vec Ideal S2048x512 .bf16) (r : Fin 1024) (j : Fin 512)
    (hr : t.val / 15 * 1024 + r.val < 8192) (hj : t.val % 15 * 512 + j.val < 7440) :
    product (iblk m c 0 t) (win0_1.fill (grid0.coords t) d (iblk m c 1 t)) (ix2 r j)
      = prod m c (ix2 ⟨t.val / 15 * 1024 + r.val, hr⟩ ⟨t.val % 15 * 512 + j.val, hj⟩) := by
  have e : product (iblk m c 0 t) (win0_1.fill (grid0.coords t) d (iblk m c 1 t))
      = k0_pay1 (F := Ideal) (iblk m c 0 t) (win0_1.fill (grid0.coords t) d (iblk m c 1 t)) := by
    unfold product
    rw [View.canon_unit_zero Rows.zeros2, View.ld_unit_zero Rows.zeros2, View.ld_unit_zero Rows.zeros2]
  have e' := congrFun e (ix2 r j)
  rw [e']
  pointwise [k0_pay1, prod, Cert.InEvenRefIdeal.Read.val_main_v0]
  refine Finset.sum_congr rfl fun k _ => ?_
  rw [x_at m c t r k hr, w_at m c t d k j hj]

/-- The part of its buffer point `t` writes back, read: the host's product at the block's rows and columns. -/
theorem cut_at (c : Dev nD) (t : Fin cfg0.N) (d : Vec Ideal S2048x512 .bf16) :
    win0_2.cut (grid0.coords t) (product (iblk m c 0 t) (win0_1.fill (grid0.coords t) d (iblk m c 1 t)))
      = (win0_2.blk t).view.read (Elt Ideal) (prod m c) := by
  have ht : t.val < 120 := t.isLt.trans_eq N_0
  funext y
  have h0 : (y 0 : Nat) < 1024 := (y 0).isLt.trans_eq (size t).2.2.1
  have h1 : (y 1 : Nat) < min 512 (7440 - t.val % 15 * 512) := (y 1).isLt.trans_eq (size t).2.2.2
  have e : win0_2.xinj (grid0.coords t) y = ix2 (⟨y 0, h0⟩ : Fin 1024) (⟨y 1, by omega⟩ : Fin 512) := by
    refine funext fun a => Fin.ext ?_
    match a with
    | ⟨0, _⟩ => rfl
    | ⟨1, _⟩ => rfl
  show product _ _ (win0_2.xinj (grid0.coords t) y) = prod m c ((win0_2.blk t).view.emb y)
  rw [e]
  refine (product_at m c t d _ _ (by show t.val / 15 * 1024 + (y 0 : Nat) < 8192; omega) (by show t.val % 15 * 512 + (y 1 : Nat) < 7440; omega)).trans ?_
  refine congrArg _ (funext fun a => Fin.ext ?_)
  match a with
  | ⟨0, _⟩ => show t.val / 15 * 1024 + (y 0 : Nat) = win0_2.index t 0 * 1024 + 1 * (y 0 : Nat); rw [(idx t).2.2.2.2.1]; omega
  | ⟨1, _⟩ => show t.val % 15 * 512 + (y 1 : Nat) = win0_2.index t 1 * 512 + 1 * (y 1 : Nat); rw [(idx t).2.2.2.2.2]; omega

/-- So what is written back does not depend on what lies past the edge. -/
theorem edgeFree : EdgeFree m := fun c t d => (cut_at m c t d).trans (cut_at m c t _).symm

/-- What point `t` writes back is block `t` of the host's product. -/
theorem flushed_eq (c : Dev nD) (t : Fin cfg0.N) :
    (dats m 0 c).flushed 2 t = (win0_2.blk t).view.read (Elt Ideal) (prod m c) := by
  show win0_2.cut (grid0.coords t) ((dats m 0 c).after 2 t) = _
  rw [after_2]
  exact cut_at m c t _

/-- The result array's blocks, the last of each row cut at the edge, tile it. -/
theorem cover (i : S8192x7440.Idx) :
    ∃ t : Fin cfg0.N, (cfg0.win 2).flush t = true ∧ i ∈ ((cfg0.win 2).blk t).view.set := by
  have h0 : (i 0 : Nat) < 8192 := (i 0).isLt
  have h1 : (i 1 : Nat) < 7440 := (i 1).isLt
  have hN : cfg0.N = 120 := N_0
  refine ⟨⟨(i 0 : Nat) / 1024 * 15 + (i 1 : Nat) / 512, by omega⟩, flush0_2 _, ?_⟩
  generalize ht : (⟨(i 0 : Nat) / 1024 * 15 + (i 1 : Nat) / 512, by omega⟩ : Fin cfg0.N) = t
  have hv : t.val = (i 0 : Nat) / 1024 * 15 + (i 1 : Nat) / 512 := by rw [← ht]
  show i ∈ ((View.whole main_v1).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + win0_2.xsize (grid0.coords t) 0
              rw [(idx t).2.2.2.2.1, (size t).2.2.1]; omega
  | ⟨1, _⟩ => show win0_2.index t 1 * 512 ≤ (i 1 : Nat) ∧ (i 1 : Nat) < win0_2.index t 1 * 512 + win0_2.xsize (grid0.coords t) 1
              rw [(idx t).2.2.2.2.2, (size t).2.2.2]; omega

/-- So the result array ends holding the host's product. -/
theorem final (c : Dev nD) : (dats m 0 c).arrAt 2 cfg0.N = prod m c :=
  (dats m 0 c).arrAt_eq_of_cover 2 (prod m c) (fun t _ => flushed_eq m c t) cover

end Cert.InEvenIdeal.RefValue

namespace Cert.Proof.InEven

/-- The call as printed runs to the end, keeps its arguments and leaves no semaphore counted. -/
theorem frame_p : Cert.quiescent_InEven := fun m ρ _ => InEvenRun.frame m ρ
/-- So does its idealization. -/
theorem frame_pi : Cert.quiescent_InEvenIdeal := fun m ρ _ =>
  (θ_run Cert.InEvenIdeal.defs _ _).mono (fun _ h => ⟨fun c => (h.1 c).2, h.2⟩)
    (InEvenIdealRun.run_all m ρ (Cert.InEvenIdeal.RefValue.edgeFree m))
/-- So does the reference, which declares no semaphore. -/
theorem frame_ri : Cert.quiescent_InEvenRefIdeal := fun m ρ _ =>
  (θ_run Cert.InEvenRefIdeal.defs _ _).mono (fun r h => ⟨fun c => (h c).2, sem_eq_zero_of_no_sems (by decide) r.2⟩)
    (Cert.InEvenRefIdeal.Value.run (F := Ideal) m ρ)
/-- Nothing has to be preserved: no operation was replaced. -/
theorem preserves : Cert.preserves_InEven_InEvenIdeal := trivial

/-- From arguments that agree, the tiled product and the host's product leave the same array. -/
theorem algebraic : Cert.algebraic_InEvenIdeal_InEvenRefIdeal := by
  intro m ρ m' ρ' _ hagree
  refine ⟨fun c => Cert.InEvenIdeal.RefValue.prod m c, ?_, ?_⟩
  · exact (θ_run Cert.InEvenIdeal.defs _ _).mono
      (fun _ h c => ⟨(h.1 c).1.trans (Cert.InEvenIdeal.RefValue.final m c), (h.1 c).2⟩)
      (InEvenIdealRun.run_all m ρ (Cert.InEvenIdeal.RefValue.edgeFree m))
  · refine (θ_run Cert.InEvenRefIdeal.defs _ _).mono (fun _ h c => ⟨(h c).1.trans ?_, (h c).2⟩)
      (Cert.InEvenRefIdeal.Value.run (F := Ideal) m' ρ')
    rw [(hagree c).1, (hagree c).2]
    rfl

end Cert.Proof.InEven

end
-- ==== Proof.InOdd.lean ====
/- The odd layers' input projection: what the tiled product leaves in its result array is the host's product. -/
module

public import proofs.«01_k».proof.Defs
public import proofs.«01_k».proof.Proof.Rows
public import proofs.«01_k».proof.Proof.Gen.InOdd.Frame
public import proofs.«01_k».proof.Proof.Gen.InOddIdeal.Value
public import proofs.«01_k».proof.Proof.Gen.InOddRefIdeal.Read
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.InOddIdeal.RefValue

open Cert.InOddIdeal Cert.InOddIdeal.Gen

variable (m : (ℓ : Loc nD τ sig) → Buf (Elt Ideal) ℓ) (ρ : Dev nD → PrngReg)

/-- The host's product of the two argument arrays. -/
abbrev prod (c : Dev nD) : Buf (Elt Ideal) ((c : Thread nD τ).loc main_v1) :=
  Cert.InOddRefIdeal.Read.val_main_v0 (F := Ideal) (m ((c : Thread nD τ).loc main_arg0)) (m ((c : Thread nD τ).loc main_arg1))

/-- Which block of each array point `t` works on: row block `t / 6`, column block `t % 6`. -/
theorem idx : ∀ t : Fin cfg0.N, win0_0.index t 0 = t.val / 6 ∧ win0_0.index t 1 = 0 ∧ win0_1.index t 0 = 0
    ∧ win0_1.index t 1 = t.val % 6 ∧ win0_2.index t 0 = t.val / 6 ∧ win0_2.index t 1 = t.val % 6 :=
  (by decide +kernel : ∀ t : Fin grid0.N, win0_0.index t 0 = t.val / 6 ∧ win0_0.index t 1 = 0 ∧ win0_1.index t 0 = 0
    ∧ win0_1.index t 1 = t.val % 6 ∧ win0_2.index t 0 = t.val / 6 ∧ win0_2.index t 1 = t.val % 6)

/-- The weights the call is given are the weight argument. -/
theorem V_w (c : Dev nD) : V m c main_v0 = m ((c : Thread nD τ).loc main_arg1) := by
  show StableHlo.after hostOps0 _ _ = _
  unfold hostOps0
  after_results
  rfl

/-- The block of rows point `t` reads. -/
theorem x_at (c : Dev nD) (t : Fin cfg0.N) (r : Fin 1024) (k : Fin 2048) (h : t.val / 6 * 1024 + r.val < 8192) :
    iblk m c 0 t (ix2 r k) = m ((c : Thread nD τ).loc main_arg0) (ix2 ⟨t.val / 6 * 1024 + r.val, h⟩ k) := by
  show V m c main_arg0 ((win0_0.blk t).view.emb (ix2 r k)) = _
  rw [V_main_arg0]
  refine congrArg _ (funext fun a => Fin.ext ?_)
  match a with
  | ⟨0, _⟩ => show win0_0.index t 0 * 1024 + 1 * r.val = t.val / 6 * 1024 + r.val; rw [(idx t).1]; omega
  | ⟨1, _⟩ => show win0_0.index t 1 * 2048 + 1 * k.val = k.val; rw [(idx t).2.1]; omega

/-- The block of weight columns point `t` reads. -/
theorem w_at (c : Dev nD) (t : Fin cfg0.N) (k : Fin 2048) (j : Fin 512) (h : t.val % 6 * 512 + j.val < 3072) :
    iblk m c 1 t (ix2 k j) = m ((c : Thread nD τ).loc main_arg1) (ix2 k ⟨t.val % 6 * 512 + j.val, h⟩) := by
  show V m c main_v0 ((win0_1.blk t).view.emb (ix2 k j)) = _
  rw [V_w]
  refine congrArg _ (funext fun a => Fin.ext ?_)
  match a with
  | ⟨0, _⟩ => show win0_1.index t 0 * 2048 + 1 * k.val = k.val; rw [(idx t).2.2.1]; omega
  | ⟨1, _⟩ => show win0_1.index t 1 * 512 + 1 * j.val = t.val % 6 * 512 + j.val; rw [(idx t).2.2.2.1]; omega

/-- What point `t` writes back is block `t` of the host's product. -/
theorem flushed_eq (c : Dev nD) (t : Fin cfg0.N) :
    (dats m 0 c).flushed 2 t = (win0_2.blk t).view.read (Elt Ideal) (prod m c) := by
  rw [Value.flushed2]
  unfold out0_2
  rw [View.canon_unit_zero Rows.zeros2, View.ld_unit_zero Rows.zeros2, View.ld_unit_zero Rows.zeros2]
  have ht : t.val < 48 := t.isLt.trans_eq N_0
  funext y
  obtain ⟨r, j, rfl⟩ : ∃ (r : Fin 1024) (j : Fin 512), y = ix2 r j := ⟨y 0, y 1, eq_ix2 y⟩
  have hr := r.isLt
  have hj := j.isLt
  show k0_pay1 (iblk m c 0 t) (iblk m c 1 t) (ix2 r j) = prod m c ((win0_2.blk t).view.emb (ix2 r j))
  have e : (win0_2.blk t).view.emb (ix2 r j) = ix2 (⟨t.val / 6 * 1024 + r.val, by omega⟩ : Fin 8192) (⟨t.val % 6 * 512 + j.val, by omega⟩ : Fin 3072) := by
    refine funext fun a => Fin.ext ?_
    match a with
    | ⟨0, _⟩ => show win0_2.index t 0 * 1024 + 1 * r.val = t.val / 6 * 1024 + r.val; rw [(idx t).2.2.2.2.1]; omega
    | ⟨1, _⟩ => show win0_2.index t 1 * 512 + 1 * j.val = t.val % 6 * 512 + j.val; rw [(idx t).2.2.2.2.2]; omega
  rw [e]
  pointwise [k0_pay1, prod, Cert.InOddRefIdeal.Read.val_main_v0]
  refine Finset.sum_congr rfl fun k _ => ?_
  rw [x_at m c t r k (by omega), w_at m c t k j (by omega)]

/-- The result array's blocks tile it. -/
theorem cover (i : S8192x3072.Idx) :
    ∃ t : Fin cfg0.N, (cfg0.win 2).flush t = true ∧ i ∈ ((cfg0.win 2).blk t).view.set := by
  have h0 : (i 0 : Nat) < 8192 := (i 0).isLt
  have h1 : (i 1 : Nat) < 3072 := (i 1).isLt
  have hN : cfg0.N = 48 := N_0
  refine ⟨⟨(i 0 : Nat) / 1024 * 6 + (i 1 : Nat) / 512, by omega⟩, flush0_2 _, ?_⟩
  generalize ht : (⟨(i 0 : Nat) / 1024 * 6 + (i 1 : Nat) / 512, by omega⟩ : Fin cfg0.N) = t
  have hv : t.val = (i 0 : Nat) / 1024 * 6 + (i 1 : Nat) / 512 := by rw [← ht]
  show i ∈ ((View.whole main_v1).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [(idx t).2.2.2.2.1]; omega
  | ⟨1, _⟩ => show win0_2.index t 1 * 512 ≤ (i 1 : Nat) ∧ (i 1 : Nat) < win0_2.index t 1 * 512 + 512
              rw [(idx t).2.2.2.2.2]; omega

/-- So the result array ends holding the host's product. -/
theorem final (c : Dev nD) : (dats m 0 c).arrAt 2 cfg0.N = prod m c :=
  (dats m 0 c).arrAt_eq_of_cover 2 (prod m c) (fun t _ => flushed_eq m c t) cover

end Cert.InOddIdeal.RefValue

namespace Cert.Proof.InOdd

/-- The call as printed runs to the end, keeps its arguments and leaves no semaphore counted. -/
theorem frame_p : Cert.quiescent_InOdd := fun m ρ _ => Cert.InOdd.Gen.frame m ρ
/-- So does its idealization. -/
theorem frame_pi : Cert.quiescent_InOddIdeal := fun m ρ _ => Cert.InOddIdeal.Gen.frame m ρ
/-- The reference's run read at its arguments; it declares no semaphore. -/
theorem frame_ri : Cert.quiescent_InOddRefIdeal := fun m ρ _ =>
  (θ_run Cert.InOddRefIdeal.defs _ _).mono (fun r h => ⟨fun c => (h c).2, sem_eq_zero_of_no_sems (by decide) r.2⟩)
    (Cert.InOddRefIdeal.Value.run (F := Ideal) m ρ)
/-- Nothing has to be preserved: no operation was replaced. -/
theorem preserves : Cert.preserves_InOdd_InOddIdeal := trivial

/-- From arguments that agree, the tiled product and the host's product leave the same array. -/
theorem algebraic : Cert.algebraic_InOddIdeal_InOddRefIdeal := by
  intro m ρ m' ρ' _ hagree
  refine ⟨fun c => Cert.InOddIdeal.RefValue.prod m c, ?_, ?_⟩
  · exact (θ_run Cert.InOddIdeal.defs _ _).mono
      (fun _ h c => ⟨(h c).1.trans (Cert.InOddIdeal.RefValue.final m c), (h c).2⟩)
      (Cert.InOddIdeal.Value.run_blocks (F := Ideal) m ρ)
  · refine (θ_run Cert.InOddRefIdeal.defs _ _).mono (fun _ h c => ⟨(h c).1.trans ?_, (h c).2⟩)
      (Cert.InOddRefIdeal.Value.run (F := Ideal) m' ρ')
    rw [(hagree c).1, (hagree c).2]
    rfl

end Cert.Proof.InOdd

end
-- ==== Proof.InMem.lean ====
module

public import proofs.«01_k».proof.Defs
public import proofs.«01_k».proof.Proof.Rows
public import proofs.«01_k».proof.Proof.Gen.InMem.Frame
public import proofs.«01_k».proof.Proof.Gen.InMemIdeal.Value
public import proofs.«01_k».proof.Proof.Gen.InMemRefIdeal.Read
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.Pointwise

/-! The memory's keys and values: one product with the two weights side by side. -/

namespace Cert.InMemIdeal.Entry
open Cert.InMemIdeal Cert.InMemIdeal.Gen

variable (m : (ℓ : Loc nD τ sig) → Buf (Elt Ideal) ℓ) (ρ : Dev nD → PrngReg)

/-- The reference's result at the kernel's arguments. -/
abbrev want (c : Dev nD) : Buf (Elt Ideal) ((c : Thread nD τ).loc main_v2) :=
  Cert.InMemRefIdeal.Read.val_main_v2 (F := Ideal) (m ((c : Thread nD τ).loc main_arg0)) (m ((c : Thread nD τ).loc main_arg1)) (m ((c : Thread nD τ).loc main_arg2))

/-- The index maps: point `t` is block `t` of the columns. -/
theorem idx : ∀ t : Fin cfg0.N, (win0_0.index t 0 = 0 ∧ win0_0.index t 1 = 0) ∧ (win0_1.index t 0 = 0 ∧ win0_1.index t 1 = t.val)
    ∧ (win0_2.index t 0 = 0 ∧ win0_2.index t 1 = t.val) :=
  (by decide +kernel : ∀ t : Fin grid0.N, _)

/-- The two weights side by side. -/
def both (a b : FVec Ideal S2048x2048 .f32) : FVec Ideal S2048x4096 .f32 :=
  concatenate S2048x4096 1 [⟨S2048x2048, a⟩, ⟨S2048x2048, b⟩] concatenates_S2048x2048_S2048x2048_S2048x4096_d1

/-- The weight the call is given is the two arguments side by side. -/
theorem V_w (c : Dev nD) : V m c main_v1 = both (m ((c : Thread nD τ).loc main_arg1)) (m ((c : Thread nD τ).loc main_arg2)) := by
  show StableHlo.after hostOps0 _ _ = _
  unfold hostOps0
  after_results
  rfl

/-- The memory, whole at every point. -/
theorem x_at (c : Dev nD) (t : Fin cfg0.N) (r : Fin 512) (k : Fin 2048) :
    iblk m c 0 t (ix2 r k) = m ((c : Thread nD τ).loc main_arg0) (ix2 r k) := by
  show V m c main_arg0 ((win0_0.blk t).view.emb (ix2 r k)) = _
  rw [V_main_arg0]
  refine congrArg _ (funext fun a => Fin.ext ?_)
  match a with
  | ⟨0, _⟩ => show win0_0.index t 0 * 512 + 1 * r.val = r.val; rw [(idx t).1.1]; omega
  | ⟨1, _⟩ => show win0_0.index t 1 * 2048 + 1 * k.val = k.val; rw [(idx t).1.2]; omega

/-- The weight columns that point `t` reads. -/
theorem w_at (c : Dev nD) (t : Fin cfg0.N) (k : Fin 2048) (j : Fin 512) (h : t.val * 512 + j.val < 4096) :
    iblk m c 1 t (ix2 k j) = both (m ((c : Thread nD τ).loc main_arg1)) (m ((c : Thread nD τ).loc main_arg2)) (ix2 k ⟨t.val * 512 + j.val, h⟩) := by
  show V m c main_v1 ((win0_1.blk t).view.emb (ix2 k j)) = _
  rw [V_w]
  refine congrArg _ (funext fun a => Fin.ext ?_)
  match a with
  | ⟨0, _⟩ => show win0_1.index t 0 * 2048 + 1 * k.val = k.val; rw [(idx t).2.1.1]; omega
  | ⟨1, _⟩ => show win0_1.index t 1 * 512 + 1 * j.val = t.val * 512 + j.val; rw [(idx t).2.1.2]; omega

/-- The product with both weights is the two products side by side. -/
theorem product (x : FVec Ideal S512x2048 .f32) (a b : FVec Ideal S2048x2048 .f32) (r : Fin 512) (u : Fin 4096) :
    ∑ k : Fin 2048, x (ix2 r k) * both a b (ix2 k u) = Cert.InMemRefIdeal.Read.val_main_v2 (F := Ideal) x a b (ix2 r u) := by
  pointwise [both, Cert.InMemRefIdeal.Read.val_main_v2, Cert.InMemRefIdeal.Read.val_main_v1, Cert.InMemRefIdeal.Read.val_main_v0]
  by_cases h : u.val < 2048
  · rw [dif_pos h]
    exact Finset.sum_congr rfl fun k _ => Ideal.mul_congr rfl (dif_pos h)
  · rw [dif_neg h]
    exact Finset.sum_congr rfl fun k _ => Ideal.mul_congr rfl (dif_neg h)

/-- What point `t` writes back is block `t` of the reference's result. -/
theorem flushed_eq (c : Dev nD) (t : Fin cfg0.N) :
    (dats m 0 c).flushed 2 t = (win0_2.blk t).view.read (Elt Ideal) (want m c) := by
  rw [Value.flushed2]
  unfold out0_2
  rw [View.canon_unit_zero Rows.zeros2, View.ld_unit_zero Rows.zeros2, View.ld_unit_zero Rows.zeros2]
  have ht : t.val < 8 := t.isLt.trans_eq N_0
  funext y
  obtain ⟨r, j, rfl⟩ : ∃ (r : Fin 512) (j : Fin 512), y = ix2 r j := ⟨y 0, y 1, eq_ix2 y⟩
  have hj := j.isLt
  show k0_pay1 (iblk m c 0 t) (iblk m c 1 t) (ix2 r j) = want m c ((win0_2.blk t).view.emb (ix2 r j))
  have e : (win0_2.blk t).view.emb (ix2 r j) = ix2 (r : Fin 512) (⟨t.val * 512 + j.val, by omega⟩ : Fin 4096) := by
    refine funext fun a => Fin.ext ?_
    match a with
    | ⟨0, _⟩ => show win0_2.index t 0 * 512 + 1 * r.val = r.val; rw [(idx t).2.2.1]; omega
    | ⟨1, _⟩ => show win0_2.index t 1 * 512 + 1 * j.val = t.val * 512 + j.val; rw [(idx t).2.2.2]; omega
  rw [e]
  refine Eq.trans ?_ (product _ _ _ r _)
  pointwise [k0_pay1]
  refine Finset.sum_congr rfl fun k _ => ?_
  rw [x_at m c t r k, w_at m c t k j (by omega)]

/-- The result array's blocks tile it. -/
theorem cover (i : S512x4096.Idx) :
    ∃ t : Fin cfg0.N, (cfg0.win 2).flush t = true ∧ i ∈ ((cfg0.win 2).blk t).view.set := by
  have h0 : (i 0 : Nat) < 512 := (i 0).isLt
  have h1 : (i 1 : Nat) < 4096 := (i 1).isLt
  have hN : cfg0.N = 8 := N_0
  refine ⟨⟨(i 1 : Nat) / 512, by omega⟩, flush0_2 _, ?_⟩
  generalize ht : (⟨(i 1 : Nat) / 512, by omega⟩ : Fin cfg0.N) = t
  have hv : t.val = (i 1 : Nat) / 512 := by rw [← ht]
  show i ∈ ((View.whole main_v2).slice (win0_2.rect t)).set
  rw [View.set_slice_whole, Rect.mem_set_unit]
  intro a
  match a with
  | ⟨0, _⟩ => show win0_2.index t 0 * 512 ≤ (i 0 : Nat) ∧ (i 0 : Nat) < win0_2.index t 0 * 512 + 512
              rw [(idx t).2.2.1]; omega
  | ⟨1, _⟩ => show win0_2.index t 1 * 512 ≤ (i 1 : Nat) ∧ (i 1 : Nat) < win0_2.index t 1 * 512 + 512
              rw [(idx t).2.2.2]; omega

/-- So the result array ends holding the reference's result. -/
theorem final (c : Dev nD) : (dats m 0 c).arrAt 2 cfg0.N = want m c :=
  (dats m 0 c).arrAt_eq_of_cover 2 (want m c) (fun t _ => flushed_eq m c t) cover

end Cert.InMemIdeal.Entry

namespace Cert.Proof.InMem

/-- The kernel leaves its arguments as they were. -/
theorem frame_p : Cert.quiescent_InMem := fun m ρ _ => Cert.InMem.Gen.frame m ρ
/-- So does its idealization. -/
theorem frame_pi : Cert.quiescent_InMemIdeal := fun m ρ _ => Cert.InMemIdeal.Gen.frame m ρ
/-- So does the reference, whose run is read at its arguments; it declares no semaphore. -/
theorem frame_ri : Cert.quiescent_InMemRefIdeal := fun m ρ _ =>
  (θ_run Cert.InMemRefIdeal.defs _ _).mono (fun r h => ⟨fun c => (h c).2, sem_eq_zero_of_no_sems (by decide) r.2⟩)
    (Cert.InMemRefIdeal.Value.run (F := Ideal) m ρ)
/-- The idealization rewrites nothing but the number type. -/
theorem preserves : Cert.preserves_InMem_InMemIdeal := trivial

/-- From arguments that agree, the kernel and the reference leave the same array. -/
theorem algebraic : Cert.algebraic_InMemIdeal_InMemRefIdeal := by
  intro m ρ m' ρ' _ hagree
  refine ⟨fun c => Cert.InMemIdeal.Entry.want m c, ?_, ?_⟩
  · exact (θ_run Cert.InMemIdeal.defs _ _).mono
      (fun _ h c => ⟨(h c).1.trans (Cert.InMemIdeal.Entry.final m c), (h c).2⟩)
      (Cert.InMemIdeal.Value.run_blocks (F := Ideal) m ρ)
  · refine (θ_run Cert.InMemRefIdeal.defs _ _).mono (fun _ h c => ⟨(h c).1.trans ?_, (h c).2⟩)
      (Cert.InMemRefIdeal.Value.run (F := Ideal) m' ρ')
    rw [(hagree c).1, (hagree c).2.1, (hagree c).2.2]
    rfl

end Cert.Proof.InMem

end
-- ==== Proof.OutOdd.lean ====
module

public import proofs.«01_k».proof.Defs
public import proofs.«01_k».proof.Proof.Attn
public import proofs.«01_k».proof.Proof.Gen.OutOdd.Frame
public import proofs.«01_k».proof.Proof.Gen.OutOddIdeal.Value
public import proofs.«01_k».proof.Proof.Gen.OutOddRefIdeal.Read
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.Pointwise

/-! The output projection of an odd layer: rows through the weights, onto the scaled residual, normalised. -/

namespace Cert.OutOddRefIdeal.Entry
open Cert.OutOddRefIdeal Cert.OutOddRefIdeal.Read

variable (y : (⟨S8192x2048, .f32⟩ : BufTy).Contents (Elt Ideal)) (w : (⟨S2048x2048, .f32⟩ : BufTy).Contents (Elt Ideal))
  (x : (⟨S8192x2048, .f32⟩ : BufTy).Contents (Elt Ideal)) (g b : (⟨S2048, .f32⟩ : BufTy).Contents (Elt Ideal))

/-- The reference's result, entry by entry. -/
theorem result (s : Fin 8192) (j : Fin 2048) :
    val_main_v27 (F := Ideal) y w x g b (ix2 s j)
      = Rows.onto (fun k => x (ix2 s k)) (Rows.times (fun k => y (ix2 s k)) (fun k j => w (ix2 k j)))
          (fun k => g (ix1 k)) (fun k => b (ix1 k)) j := by
  have e : ∀ k : Fin 2048, val_main_v3 (F := Ideal) y w x (ix2 s k)
      = Ideal.ofBits .f32 0x3FB504F3#32 * x (ix2 s k) + Rows.times (fun k => y (ix2 s k)) (fun k j => w (ix2 k j)) k := fun k => by
    pointwise [val_main_v3, val_main_v2, val_main_v1, val_main_v0, val_main_cst]
    rfl
  refine Eq.trans ?_ (congrArg (fun f => Rows.norm f (fun k => g (ix1 k)) (fun k => b (ix1 k)) j) (funext e))
  unfold val_main_v27 val_main_v24 val_main_v21 val_main_v20 val_main_v19 val_main_v18 val_main_v16 val_main_v15 val_main_v14 val_main_v12 val_main_v11
    val_main_v10 val_main_v9 val_main_v8 val_main_v7 val_main_v5 val_main_v4
  generalize val_main_v3 (F := Ideal) y w x = z
  pointwise [val_main_v26, val_main_v25, val_main_v23, val_main_v22, val_main_v17, val_main_v13, val_main_v6, val_main_cst_0, val_main_cst_1, val_main_cst_2, val_main_cst_3, val_main_cst_4]
  rfl

end Cert.OutOddRefIdeal.Entry

namespace Cert.OutOddIdeal.Entry
open Cert.OutOddIdeal Cert.OutOddIdeal.Gen
open Cert.KernelIdeal.Attn (onto onto_at normed normed_at row_at)

/-- What the body stores, entry by entry, from the blocks it reads. -/
theorem body_at (y : Vec Ideal S256x2048 .f32) (w : Vec Ideal S2048x2048 .bf16) (x : Vec Ideal S256x2048 .f32) (g b : Vec Ideal S1x2048 .f32)
    (r : Fin 256) (j : Fin 2048) :
    out0_5 y w x g b (ix2 r j)
      = Rows.onto (fun k => x (ix2 r k)) (Rows.times (fun k => y (ix2 r k)) (fun k j => w (ix2 k j)))
          (fun k => g (ix2 0 k)) (fun k => b (ix2 0 k)) j := by
  unfold out0_5
  rw [View.canon_unit_zero Rows.zeros2]
  simp only [View.ld_unit_zero (S := S256x2048) Rows.zeros2, View.ld_unit_zero (S := S2048x2048) Rows.zeros2, View.ld_unit_zero (S := S1x2048) Rows.zeros2]
  refine Eq.trans (b := normed (onto x y w) g b (ix2 r j)) rfl ?_
  rw [normed_at]
  exact congrArg (fun f => Rows.norm f _ _ j) (funext fun i => onto_at x y w r i)

variable (m : (ℓ : Loc nD τ sig) → Buf (Elt Ideal) ℓ) (ρ : Dev nD → PrngReg)

/-- The reference's result at the kernel's arguments. -/
abbrev want (c : Dev nD) : Buf (Elt Ideal) ((c : Thread nD τ).loc main_v4) :=
  Cert.OutOddRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The index maps: point `t` is row block `t`, over whole weights. -/
theorem idx : ∀ t : Fin cfg0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0) :=
  (by decide +kernel : ∀ t : Fin grid0.N, _)

/-- The weight the call is given is all of the argument. -/
theorem V_w (c : Dev nD) : V m c main_v1 = extractStridedSlice S2048x2048 ![0, 0] (m ((c : Thread nD τ).loc main_arg1)) slices_S2048x2048_S2048x2048_0_0 := by
  show StableHlo.after hostOps0 _ _ = _
  unfold hostOps0
  after_results
  rfl
/-- The gain is the argument as one row. -/
theorem V_g (c : Dev nD) : V m c main_v2 = shapeCast S1x2048 (m ((c : Thread nD τ).loc main_arg3)) shapeCasts_S2048_S1x2048 := by
  show StableHlo.after hostOps0 _ _ = _
  unfold hostOps0
  after_results
  rfl
/-- So is the offset. -/
theorem V_b (c : Dev nD) : V m c main_v3 = shapeCast S1x2048 (m ((c : Thread nD τ).loc main_arg4)) shapeCasts_S2048_S1x2048 := by
  show StableHlo.after hostOps0 _ _ = _
  unfold hostOps0
  after_results
  rfl

/-- The weights are taken whole. -/
theorem all_at (z : FVec Ideal S2048x2048 .f32) (i j : Fin 2048) :
    extractStridedSlice S2048x2048 ![0, 0] z slices_S2048x2048_S2048x2048_0_0 (ix2 i j) = z (ix2 i j) := by
  pointwise

/-- The rows that point `t` reads. -/
theorem y_at (c : Dev nD) (t : Fin cfg0.N) (r : Fin 256) (k : Fin 2048) (h : t.val * 256 + r.val < 8192) :
    iblk m c 0 t (ix2 r k) = m ((c : Thread nD τ).loc main_arg0) (ix2 ⟨t.val * 256 + r.val, h⟩ k) := by
  show V m c main_arg0 ((win0_0.blk t).view.emb (ix2 r k)) = _
  rw [V_main_arg0]
  refine congrArg _ (funext fun a => Fin.ext ?_)
  match a with
  | ⟨0, _⟩ => show win0_0.index t 0 * 256 + 1 * r.val = t.val * 256 + r.val; rw [(idx t).1.1]; omega
  | ⟨1, _⟩ => show win0_0.index t 1 * 2048 + 1 * k.val = k.val; rw [(idx t).1.2]; omega

/-- The weights, whole at every point. -/
theorem w_at (c : Dev nD) (t : Fin cfg0.N) (i : Fin 2048) (j : Fin 2048) :
    iblk m c 1 t (ix2 i j) = V m c main_v1 (ix2 i j) := by
  show V m c main_v1 ((win0_1.blk t).view.emb (ix2 i j)) = _
  refine congrArg _ (funext fun a => Fin.ext ?_)
  match a with
  | ⟨0, _⟩ => show win0_1.index t 0 * 2048 + 1 * i.val = i.val; rw [(idx t).2.1.1]; omega
  | ⟨1, _⟩ => show win0_1.index t 1 * 2048 + 1 * j.val = j.val; rw [(idx t).2.1.2]; omega

/-- The residual's rows that point `t` reads. -/
theorem x_at (c : Dev nD) (t : Fin cfg0.N) (r : Fin 256) (k : Fin 2048) (h : t.val * 256 + r.val < 8192) :
    iblk m c 2 t (ix2 r k) = m ((c : Thread nD τ).loc main_arg2) (ix2 ⟨t.val * 256 + r.val, h⟩ k) := by
  show V m c main_arg2 ((win0_2.blk t).view.emb (ix2 r k)) = _
  rw [V_main_arg2]
  refine congrArg _ (funext fun a => Fin.ext ?_)
  match a with
  | ⟨0, _⟩ => show win0_2.index t 0 * 256 + 1 * r.val = t.val * 256 + r.val; rw [(idx t).2.2.1.1]; omega
  | ⟨1, _⟩ => show win0_2.index t 1 * 2048 + 1 * k.val = k.val; rw [(idx t).2.2.1.2]; omega

/-- The gain, whole at every point. -/
theorem g_at (c : Dev nD) (t : Fin cfg0.N) (i : Fin 1) (j : Fin 2048) :
    iblk m c 3 t (ix2 i j) = V m c main_v2 (ix2 i j) := by
  show V m c main_v2 ((win0_3.blk t).view.emb (ix2 i j)) = _
  refine congrArg _ (funext fun a => Fin.ext ?_)
  match a with
  | ⟨0, _⟩ => show win0_3.index t 0 * 1 + 1 * i.val = i.val; rw [(idx t).2.2.2.1.1]; omega
  | ⟨1, _⟩ => show win0_3.index t 1 * 2048 + 1 * j.val = j.val; rw [(idx t).2.2.2.1.2]; omega

/-- The offset, whole at every point. -/
theorem b_at (c : Dev nD) (t : Fin cfg0.N) (i : Fin 1) (j : Fin 2048) :
    iblk m c 4 t (ix2 i j) = V m c main_v3 (ix2 i j) := by
  show V m c main_v3 ((win0_4.blk t).view.emb (ix2 i j)) = _
  refine congrArg _ (funext fun a => Fin.ext ?_)
  match a with
  | ⟨0, _⟩ => show win0_4.index t 0 * 1 + 1 * i.val = i.val; rw [(idx t).2.2.2.2.1.1]; omega
  | ⟨1, _⟩ => show win0_4.index t 1 * 2048 + 1 * j.val = j.val; rw [(idx t).2.2.2.2.1.2]; omega

/-- What point `t` writes back is block `t` of the reference's result. -/
theorem flushed_eq (c : Dev nD) (t : Fin cfg0.N) :
    (dats m 0 c).flushed 5 t = (win0_5.blk t).view.read (Elt Ideal) (want m c) := by
  rw [Value.flushed5]
  have ht : t.val < 32 := t.isLt.trans_eq N_0
  funext y
  obtain ⟨r, j, rfl⟩ : ∃ (r : Fin 256) (j : Fin 2048), y = ix2 r j := ⟨y 0, y 1, eq_ix2 y⟩
  have hr := r.isLt
  show out0_5 (iblk m c 0 t) (iblk m c 1 t) (iblk m c 2 t) (iblk m c 3 t) (iblk m c 4 t) (ix2 r j) = want m c ((win0_5.blk t).view.emb (ix2 r j))
  have e : (win0_5.blk t).view.emb (ix2 r j) = ix2 (⟨t.val * 256 + r.val, by omega⟩ : Fin 8192) j := by
    refine funext fun a => Fin.ext ?_
    match a with
    | ⟨0, _⟩ => show win0_5.index t 0 * 256 + 1 * r.val = t.val * 256 + r.val; rw [(idx t).2.2.2.2.2.1]; omega
    | ⟨1, _⟩ => show win0_5.index t 1 * 2048 + 1 * j.val = j.val; rw [(idx t).2.2.2.2.2.2]; omega
  unfold want
  rw [e, body_at, Cert.OutOddRefIdeal.Entry.result]
  have hy : (fun k : Fin 2048 => iblk m c 0 t (ix2 r k)) = _ := funext fun k => y_at m c t r k (by omega)
  have hw : (fun i j : Fin 2048 => iblk m c 1 t (ix2 i j)) = _ := funext fun i => funext fun j =>
    (w_at m c t i j).trans ((congrFun (V_w m c) _).trans (all_at _ i j))
  have hx : (fun k : Fin 2048 => iblk m c 2 t (ix2 r k)) = _ := funext fun k => x_at m c t r k (by omega)
  have hg : (fun j : Fin 2048 => iblk m c 3 t (ix2 0 j)) = _ := funext fun j =>
    (g_at m c t 0 j).trans ((congrFun (V_g m c) _).trans (row_at _ j))
  have hb : (fun j : Fin 2048 => iblk m c 4 t (ix2 0 j)) = _ := funext fun j =>
    (b_at m c t 0 j).trans ((congrFun (V_b m c) _).trans (row_at _ j))
  rw [hy, hw, hx, hg, hb]

/-- The result array's blocks tile it. -/
theorem cover (i : S8192x2048.Idx) :
    ∃ t : Fin cfg0.N, (cfg0.win 5).flush t = true ∧ i ∈ ((cfg0.win 5).blk t).view.set := by
  have h0 : (i 0 : Nat) < 8192 := (i 0).isLt
  have h1 : (i 1 : Nat) < 2048 := (i 1).isLt
  have hN : cfg0.N = 32 := N_0
  refine ⟨⟨(i 0 : Nat) / 256, by omega⟩, flush0_5 _, ?_⟩
  generalize ht : (⟨(i 0 : Nat) / 256, by omega⟩ : Fin cfg0.N) = t
  have hv : t.val = (i 0 : Nat) / 256 := by rw [← ht]
  show i ∈ ((View.whole main_v4).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + 256
              rw [(idx t).2.2.2.2.2.1]; omega
  | ⟨1, _⟩ => show win0_5.index t 1 * 2048 ≤ (i 1 : Nat) ∧ (i 1 : Nat) < win0_5.index t 1 * 2048 + 2048
              rw [(idx t).2.2.2.2.2.2]; omega

/-- So the result array ends holding the reference's result. -/
theorem final (c : Dev nD) : (dats m 0 c).arrAt 5 cfg0.N = want m c :=
  (dats m 0 c).arrAt_eq_of_cover 5 (want m c) (fun t _ => flushed_eq m c t) cover

end Cert.OutOddIdeal.Entry

namespace Cert.Proof.OutOdd

/-- The kernel leaves its arguments as they were. -/
theorem frame_p : Cert.quiescent_OutOdd := fun m ρ _ => Cert.OutOdd.Gen.frame m ρ
/-- So does its idealization. -/
theorem frame_pi : Cert.quiescent_OutOddIdeal := fun m ρ _ => Cert.OutOddIdeal.Gen.frame m ρ
/-- So does the reference, whose run is read at its arguments; it declares no semaphore. -/
theorem frame_ri : Cert.quiescent_OutOddRefIdeal := fun m ρ _ =>
  (θ_run Cert.OutOddRefIdeal.defs _ _).mono (fun r h => ⟨fun c => (h c).2, sem_eq_zero_of_no_sems (by decide) r.2⟩)
    (Cert.OutOddRefIdeal.Value.run (F := Ideal) m ρ)
/-- The idealization rewrites nothing but the number type. -/
theorem preserves : Cert.preserves_OutOdd_OutOddIdeal := trivial

/-- From arguments that agree, the kernel and the reference leave the same array. -/
theorem algebraic : Cert.algebraic_OutOddIdeal_OutOddRefIdeal := by
  intro m ρ m' ρ' _ hagree
  refine ⟨fun c => Cert.OutOddIdeal.Entry.want m c, ?_, ?_⟩
  · exact (θ_run Cert.OutOddIdeal.defs _ _).mono
      (fun _ h c => ⟨(h c).1.trans (Cert.OutOddIdeal.Entry.final m c), (h c).2⟩)
      (Cert.OutOddIdeal.Value.run_blocks (F := Ideal) m ρ)
  · refine (θ_run Cert.OutOddRefIdeal.defs _ _).mono (fun _ h c => ⟨(h c).1.trans ?_, (h c).2⟩)
      (Cert.OutOddRefIdeal.Value.run (F := Ideal) m' ρ')
    rw [(hagree c).1, (hagree c).2.1, (hagree c).2.2.1, (hagree c).2.2.2.1, (hagree c).2.2.2.2]
    rfl

end Cert.Proof.OutOdd

end
-- ==== Proof.OutEven.lean ====
module

public import proofs.«01_k».proof.Defs
public import proofs.«01_k».proof.Proof.OutOdd
public import proofs.«01_k».proof.Proof.Gen.OutEven.Frame
public import proofs.«01_k».proof.Proof.Gen.OutEvenIdeal.Value
public import proofs.«01_k».proof.Proof.Gen.OutEvenRefIdeal.Read
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.Pointwise

/-! The output projection of an even layer: two halves of rows through the two halves of the weights, onto the scaled
    residual, normalised. -/

namespace Cert.OutEvenRefIdeal.Entry
open Cert.OutEvenRefIdeal Cert.OutEvenRefIdeal.Read

variable (ya yb : (⟨S8192x1024, .f32⟩ : BufTy).Contents (Elt Ideal)) (w : (⟨S2048x2048, .f32⟩ : BufTy).Contents (Elt Ideal))
  (x : (⟨S8192x2048, .f32⟩ : BufTy).Contents (Elt Ideal)) (g b : (⟨S2048, .f32⟩ : BufTy).Contents (Elt Ideal))

/-- The projected row: the two halves side by side through the weights, as two sums. -/
def projected (ya yb : Fin 1024 → EReal) (w : Fin 2048 → Fin 2048 → EReal) (j : Fin 2048) : EReal :=
  (∑ k : Fin 1024, ya k * w ⟨k.val, by omega⟩ j) + ∑ k : Fin 1024, yb k * w ⟨1024 + k.val, by omega⟩ j

/-- The reference's result, entry by entry. -/
theorem result (s : Fin 8192) (j : Fin 2048) :
    val_main_v28 (F := Ideal) ya yb w x g b (ix2 s j)
      = Rows.onto (fun k => x (ix2 s k)) (projected (fun k => ya (ix2 s k)) (fun k => yb (ix2 s k)) (fun k j => w (ix2 k j)))
          (fun k => g (ix1 k)) (fun k => b (ix1 k)) j := by
  have e : ∀ k : Fin 2048, val_main_v4 (F := Ideal) ya yb w x (ix2 s k)
      = Ideal.ofBits .f32 0x3FB504F3#32 * x (ix2 s k) + projected (fun k => ya (ix2 s k)) (fun k => yb (ix2 s k)) (fun k j => w (ix2 k j)) k := fun k => by
    pointwise [val_main_v4, val_main_v3, val_main_v2, val_main_v1, val_main_v0, val_main_cst]
    rfl
  refine Eq.trans ?_ (congrArg (fun f => Rows.norm f (fun k => g (ix1 k)) (fun k => b (ix1 k)) j) (funext e))
  unfold val_main_v28 val_main_v25 val_main_v22 val_main_v21 val_main_v20 val_main_v19 val_main_v17 val_main_v16 val_main_v15 val_main_v13 val_main_v12
    val_main_v11 val_main_v10 val_main_v9 val_main_v8 val_main_v6 val_main_v5
  generalize val_main_v4 (F := Ideal) ya yb w x = z
  pointwise [val_main_v27, val_main_v26, val_main_v24, val_main_v23, val_main_v18, val_main_v14, val_main_v7, val_main_cst_0, val_main_cst_1, val_main_cst_2, val_main_cst_3, val_main_cst_4]
  rfl

end Cert.OutEvenRefIdeal.Entry

namespace Cert.OutEvenIdeal.Entry
open Cert.OutEvenIdeal Cert.OutEvenIdeal.Gen
open Cert.KernelIdeal.Attn (normed normed_at row_at)

/-- The two products, onto the scaled residual. -/
def onto (ya yb : FVec Ideal S256x1024 .f32) (wa wb : Vec Ideal S1024x2048 .bf16) (x : FVec Ideal S256x2048 .f32) : FVec Ideal S256x2048 .f32 :=
  addf (mulf (broadcast S256x2048 (Scalar.ofBits (F := Ideal) .f32 0x3FB504F3#32)) x)
    (addf (matmul dot_S256x1024_S1024x2048_S256x2048_1_0_0_1_n_n none (truncf .bf16 ya bitsLt_bf16_f32)
        (shapeCast S1024x2048 (wa : FVec Ideal S1024x2048 .bf16) shapeCasts_S1024x2048_S1024x2048 : FVec Ideal S1024x2048 .bf16) (constant S256x2048 .f32 0x00000000#32))
      (matmul dot_S256x1024_S1024x2048_S256x2048_1_0_0_1_n_n none (truncf .bf16 yb bitsLt_bf16_f32)
        (shapeCast S1024x2048 (wb : FVec Ideal S1024x2048 .bf16) shapeCasts_S1024x2048_S1024x2048 : FVec Ideal S1024x2048 .bf16) (constant S256x2048 .f32 0x00000000#32)))

/-- Their sum, entry by entry. -/
theorem onto_at (ya yb wa wb x) (r : Fin 256) (j : Fin 2048) : onto ya yb wa wb x (ix2 r j)
    = Ideal.ofBits .f32 0x3FB504F3#32 * x (ix2 r j)
      + ((∑ k : Fin 1024, ya (ix2 r k) * wa (ix2 k j)) + ∑ k : Fin 1024, yb (ix2 r k) * wb (ix2 k j)) := by
  pointwise [onto]

/-- What the body stores, entry by entry, from the blocks it reads. -/
theorem body_at (ya yb : Vec Ideal S256x1024 .f32) (wa wb : Vec Ideal S1024x2048 .bf16) (x : Vec Ideal S256x2048 .f32) (g b : Vec Ideal S1x2048 .f32)
    (r : Fin 256) (j : Fin 2048) :
    out0_7 ya yb wa wb x g b (ix2 r j)
      = Rows.onto (fun k => x (ix2 r k))
          (fun j => (∑ k : Fin 1024, ya (ix2 r k) * wa (ix2 k j)) + ∑ k : Fin 1024, yb (ix2 r k) * wb (ix2 k j))
          (fun k => g (ix2 0 k)) (fun k => b (ix2 0 k)) j := by
  unfold out0_7
  rw [View.canon_unit_zero Rows.zeros2]
  simp only [View.ld_unit_zero (S := S256x2048) Rows.zeros2, View.ld_unit_zero (S := S256x1024) Rows.zeros2, View.ld_unit_zero (S := S1024x2048) Rows.zeros2, View.ld_unit_zero (S := S1x2048) Rows.zeros2]
  refine Eq.trans (b := normed (onto ya yb wa wb x) g b (ix2 r j)) rfl ?_
  rw [normed_at]
  exact congrArg (fun f => Rows.norm f _ _ j) (funext fun i => onto_at ya yb wa wb x r i)

variable (m : (ℓ : Loc nD τ sig) → Buf (Elt Ideal) ℓ) (ρ : Dev nD → PrngReg)

/-- The reference's result at the kernel's arguments. -/
abbrev want (c : Dev nD) : Buf (Elt Ideal) ((c : Thread nD τ).loc main_v5) :=
  Cert.OutEvenRefIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The index maps: point `t` is row block `t`, over whole weights. -/
theorem idx : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0) :=
  (by decide +kernel : ∀ t : Fin grid0.N, _)

/-- The first weight the call is given is the upper half of the argument. -/
theorem V_wa (c : Dev nD) : V m c main_v1 = extractStridedSlice S1024x2048 ![0, 0] (m ((c : Thread nD τ).loc main_arg2)) slices_S2048x2048_S1024x2048_0_0 := by
  show StableHlo.after hostOps0 _ _ = _
  unfold hostOps0
  after_results
  rfl
/-- The second is the lower half. -/
theorem V_wb (c : Dev nD) : V m c main_v2 = extractStridedSlice S1024x2048 ![1024, 0] (m ((c : Thread nD τ).loc main_arg2)) slices_S2048x2048_S1024x2048_1024_0 := by
  show StableHlo.after hostOps0 _ _ = _
  unfold hostOps0
  after_results
  rfl
/-- The gain is the argument as one row. -/
theorem V_g (c : Dev nD) : V m c main_v3 = shapeCast S1x2048 (m ((c : Thread nD τ).loc main_arg4)) shapeCasts_S2048_S1x2048 := by
  show StableHlo.after hostOps0 _ _ = _
  unfold hostOps0
  after_results
  rfl
/-- So is the offset. -/
theorem V_b (c : Dev nD) : V m c main_v4 = shapeCast S1x2048 (m ((c : Thread nD τ).loc main_arg5)) shapeCasts_S2048_S1x2048 := by
  show StableHlo.after hostOps0 _ _ = _
  unfold hostOps0
  after_results
  rfl

/-- The upper half of the weights. -/
theorem upper_at (z : FVec Ideal S2048x2048 .f32) (i : Fin 1024) (j : Fin 2048) :
    extractStridedSlice S1024x2048 ![0, 0] z slices_S2048x2048_S1024x2048_0_0 (ix2 i j) = z (ix2 ⟨i.val, by omega⟩ j) := by
  pointwise
/-- The lower half of the weights. -/
theorem lower_at (z : FVec Ideal S2048x2048 .f32) (i : Fin 1024) (j : Fin 2048) :
    extractStridedSlice S1024x2048 ![1024, 0] z slices_S2048x2048_S1024x2048_1024_0 (ix2 i j) = z (ix2 ⟨1024 + i.val, by omega⟩ j) := by
  pointwise

/-- The first half's rows that point `t` reads. -/
theorem ya_at (c : Dev nD) (t : Fin cfg0.N) (r : Fin 256) (k : Fin 1024) (h : t.val * 256 + r.val < 8192) :
    iblk m c 0 t (ix2 r k) = m ((c : Thread nD τ).loc main_arg0) (ix2 ⟨t.val * 256 + r.val, h⟩ k) := by
  show V m c main_arg0 ((win0_0.blk t).view.emb (ix2 r k)) = _
  rw [V_main_arg0]
  refine congrArg _ (funext fun a => Fin.ext ?_)
  match a with
  | ⟨0, _⟩ => show win0_0.index t 0 * 256 + 1 * r.val = t.val * 256 + r.val; rw [(idx t).1.1]; omega
  | ⟨1, _⟩ => show win0_0.index t 1 * 1024 + 1 * k.val = k.val; rw [(idx t).1.2]; omega

/-- The second half's rows that point `t` reads. -/
theorem yb_at (c : Dev nD) (t : Fin cfg0.N) (r : Fin 256) (k : Fin 1024) (h : t.val * 256 + r.val < 8192) :
    iblk m c 1 t (ix2 r k) = m ((c : Thread nD τ).loc main_arg1) (ix2 ⟨t.val * 256 + r.val, h⟩ k) := by
  show V m c main_arg1 ((win0_1.blk t).view.emb (ix2 r k)) = _
  rw [V_main_arg1]
  refine congrArg _ (funext fun a => Fin.ext ?_)
  match a with
  | ⟨0, _⟩ => show win0_1.index t 0 * 256 + 1 * r.val = t.val * 256 + r.val; rw [(idx t).2.1.1]; omega
  | ⟨1, _⟩ => show win0_1.index t 1 * 1024 + 1 * k.val = k.val; rw [(idx t).2.1.2]; omega

/-- The upper weights, whole at every point. -/
theorem wa_at (c : Dev nD) (t : Fin cfg0.N) (i : Fin 1024) (j : Fin 2048) :
    iblk m c 2 t (ix2 i j) = V m c main_v1 (ix2 i j) := by
  show V m c main_v1 ((win0_2.blk t).view.emb (ix2 i j)) = _
  refine congrArg _ (funext fun a => Fin.ext ?_)
  match a with
  | ⟨0, _⟩ => show win0_2.index t 0 * 1024 + 1 * i.val = i.val; rw [(idx t).2.2.1.1]; omega
  | ⟨1, _⟩ => show win0_2.index t 1 * 2048 + 1 * j.val = j.val; rw [(idx t).2.2.1.2]; omega

/-- The lower weights, whole at every point. -/
theorem wb_at (c : Dev nD) (t : Fin cfg0.N) (i : Fin 1024) (j : Fin 2048) :
    iblk m c 3 t (ix2 i j) = V m c main_v2 (ix2 i j) := by
  show V m c main_v2 ((win0_3.blk t).view.emb (ix2 i j)) = _
  refine congrArg _ (funext fun a => Fin.ext ?_)
  match a with
  | ⟨0, _⟩ => show win0_3.index t 0 * 1024 + 1 * i.val = i.val; rw [(idx t).2.2.2.1.1]; omega
  | ⟨1, _⟩ => show win0_3.index t 1 * 2048 + 1 * j.val = j.val; rw [(idx t).2.2.2.1.2]; omega

/-- The residual's rows that point `t` reads. -/
theorem x_at (c : Dev nD) (t : Fin cfg0.N) (r : Fin 256) (k : Fin 2048) (h : t.val * 256 + r.val < 8192) :
    iblk m c 4 t (ix2 r k) = m ((c : Thread nD τ).loc main_arg3) (ix2 ⟨t.val * 256 + r.val, h⟩ k) := by
  show V m c main_arg3 ((win0_4.blk t).view.emb (ix2 r k)) = _
  rw [V_main_arg3]
  refine congrArg _ (funext fun a => Fin.ext ?_)
  match a with
  | ⟨0, _⟩ => show win0_4.index t 0 * 256 + 1 * r.val = t.val * 256 + r.val; rw [(idx t).2.2.2.2.1.1]; omega
  | ⟨1, _⟩ => show win0_4.index t 1 * 2048 + 1 * k.val = k.val; rw [(idx t).2.2.2.2.1.2]; omega

/-- The gain, whole at every point. -/
theorem g_at (c : Dev nD) (t : Fin cfg0.N) (i : Fin 1) (j : Fin 2048) :
    iblk m c 5 t (ix2 i j) = V m c main_v3 (ix2 i j) := by
  show V m c main_v3 ((win0_5.blk t).view.emb (ix2 i j)) = _
  refine congrArg _ (funext fun a => Fin.ext ?_)
  match a with
  | ⟨0, _⟩ => show win0_5.index t 0 * 1 + 1 * i.val = i.val; rw [(idx t).2.2.2.2.2.1.1]; omega
  | ⟨1, _⟩ => show win0_5.index t 1 * 2048 + 1 * j.val = j.val; rw [(idx t).2.2.2.2.2.1.2]; omega

/-- The offset, whole at every point. -/
theorem b_at (c : Dev nD) (t : Fin cfg0.N) (i : Fin 1) (j : Fin 2048) :
    iblk m c 6 t (ix2 i j) = V m c main_v4 (ix2 i j) := by
  show V m c main_v4 ((win0_6.blk t).view.emb (ix2 i j)) = _
  refine congrArg _ (funext fun a => Fin.ext ?_)
  match a with
  | ⟨0, _⟩ => show win0_6.index t 0 * 1 + 1 * i.val = i.val; rw [(idx t).2.2.2.2.2.2.1.1]; omega
  | ⟨1, _⟩ => show win0_6.index t 1 * 2048 + 1 * j.val = j.val; rw [(idx t).2.2.2.2.2.2.1.2]; omega

/-- What point `t` writes back is block `t` of the reference's result. -/
theorem flushed_eq (c : Dev nD) (t : Fin cfg0.N) :
    (dats m 0 c).flushed 7 t = (win0_7.blk t).view.read (Elt Ideal) (want m c) := by
  rw [Value.flushed7]
  have ht : t.val < 32 := t.isLt.trans_eq N_0
  funext y
  obtain ⟨r, j, rfl⟩ : ∃ (r : Fin 256) (j : Fin 2048), y = ix2 r j := ⟨y 0, y 1, eq_ix2 y⟩
  have hr := r.isLt
  show out0_7 (iblk m c 0 t) (iblk m c 1 t) (iblk m c 2 t) (iblk m c 3 t) (iblk m c 4 t) (iblk m c 5 t) (iblk m c 6 t) (ix2 r j)
    = want m c ((win0_7.blk t).view.emb (ix2 r j))
  have e : (win0_7.blk t).view.emb (ix2 r j) = ix2 (⟨t.val * 256 + r.val, by omega⟩ : Fin 8192) j := by
    refine funext fun a => Fin.ext ?_
    match a with
    | ⟨0, _⟩ => show win0_7.index t 0 * 256 + 1 * r.val = t.val * 256 + r.val; rw [(idx t).2.2.2.2.2.2.2.1]; omega
    | ⟨1, _⟩ => show win0_7.index t 1 * 2048 + 1 * j.val = j.val; rw [(idx t).2.2.2.2.2.2.2.2]; omega
  unfold want
  rw [e, body_at, Cert.OutEvenRefIdeal.Entry.result]
  have hya : ∀ k : Fin 1024, iblk m c 0 t (ix2 r k) = _ := fun k => ya_at m c t r k (by omega)
  have hyb : ∀ k : Fin 1024, iblk m c 1 t (ix2 r k) = _ := fun k => yb_at m c t r k (by omega)
  have hwa : ∀ (i : Fin 1024) (j : Fin 2048), iblk m c 2 t (ix2 i j) = _ := fun i j =>
    (wa_at m c t i j).trans ((congrFun (V_wa m c) _).trans (upper_at _ i j))
  have hwb : ∀ (i : Fin 1024) (j : Fin 2048), iblk m c 3 t (ix2 i j) = _ := fun i j =>
    (wb_at m c t i j).trans ((congrFun (V_wb m c) _).trans (lower_at _ i j))
  have hx : (fun k : Fin 2048 => iblk m c 4 t (ix2 r k)) = _ := funext fun k => x_at m c t r k (by omega)
  have hg : (fun j : Fin 2048 => iblk m c 5 t (ix2 0 j)) = _ := funext fun j =>
    (g_at m c t 0 j).trans ((congrFun (V_g m c) _).trans (row_at _ j))
  have hb : (fun j : Fin 2048 => iblk m c 6 t (ix2 0 j)) = _ := funext fun j =>
    (b_at m c t 0 j).trans ((congrFun (V_b m c) _).trans (row_at _ j))
  rw [hx, hg, hb]
  refine congrArg (fun f => Rows.onto _ f _ _ j) (funext fun i => Ideal.add_congr ?_ ?_)
  · exact Finset.sum_congr rfl fun k _ => Ideal.mul_congr (hya k) (hwa k i)
  · exact Finset.sum_congr rfl fun k _ => Ideal.mul_congr (hyb k) (hwb k i)

/-- The result array's blocks tile it. -/
theorem cover (i : S8192x2048.Idx) :
    ∃ t : Fin cfg0.N, (cfg0.win 7).flush t = true ∧ i ∈ ((cfg0.win 7).blk t).view.set := by
  have h0 : (i 0 : Nat) < 8192 := (i 0).isLt
  have h1 : (i 1 : Nat) < 2048 := (i 1).isLt
  have hN : cfg0.N = 32 := N_0
  refine ⟨⟨(i 0 : Nat) / 256, by omega⟩, flush0_7 _, ?_⟩
  generalize ht : (⟨(i 0 : Nat) / 256, by omega⟩ : Fin cfg0.N) = t
  have hv : t.val = (i 0 : Nat) / 256 := by rw [← ht]
  show i ∈ ((View.whole main_v5).slice (win0_7.rect t)).set
  rw [View.set_slice_whole, Rect.mem_set_unit]
  intro a
  match a with
  | ⟨0, _⟩ => show win0_7.index t 0 * 256 ≤ (i 0 : Nat) ∧ (i 0 : Nat) < win0_7.index t 0 * 256 + 256
              rw [(idx t).2.2.2.2.2.2.2.1]; omega
  | ⟨1, _⟩ => show win0_7.index t 1 * 2048 ≤ (i 1 : Nat) ∧ (i 1 : Nat) < win0_7.index t 1 * 2048 + 2048
              rw [(idx t).2.2.2.2.2.2.2.2]; omega

/-- So the result array ends holding the reference's result. -/
theorem final (c : Dev nD) : (dats m 0 c).arrAt 7 cfg0.N = want m c :=
  (dats m 0 c).arrAt_eq_of_cover 7 (want m c) (fun t _ => flushed_eq m c t) cover

end Cert.OutEvenIdeal.Entry

namespace Cert.Proof.OutEven

/-- The kernel leaves its arguments as they were. -/
theorem frame_p : Cert.quiescent_OutEven := fun m ρ _ => Cert.OutEven.Gen.frame m ρ
/-- So does its idealization. -/
theorem frame_pi : Cert.quiescent_OutEvenIdeal := fun m ρ _ => Cert.OutEvenIdeal.Gen.frame m ρ
/-- So does the reference, whose run is read at its arguments; it declares no semaphore. -/
theorem frame_ri : Cert.quiescent_OutEvenRefIdeal := fun m ρ _ =>
  (θ_run Cert.OutEvenRefIdeal.defs _ _).mono (fun r h => ⟨fun c => (h c).2, sem_eq_zero_of_no_sems (by decide) r.2⟩)
    (Cert.OutEvenRefIdeal.Value.run (F := Ideal) m ρ)
/-- The idealization rewrites nothing but the number type. -/
theorem preserves : Cert.preserves_OutEven_OutEvenIdeal := trivial

/-- From arguments that agree, the kernel and the reference leave the same array. -/
theorem algebraic : Cert.algebraic_OutEvenIdeal_OutEvenRefIdeal := by
  intro m ρ m' ρ' _ hagree
  refine ⟨fun c => Cert.OutEvenIdeal.Entry.want m c, ?_, ?_⟩
  · exact (θ_run Cert.OutEvenIdeal.defs _ _).mono
      (fun _ h c => ⟨(h c).1.trans (Cert.OutEvenIdeal.Entry.final m c), (h c).2⟩)
      (Cert.OutEvenIdeal.Value.run_blocks (F := Ideal) m ρ)
  · refine (θ_run Cert.OutEvenRefIdeal.defs _ _).mono (fun _ h c => ⟨(h c).1.trans ?_, (h c).2⟩)
      (Cert.OutEvenRefIdeal.Value.run (F := Ideal) m' ρ')
    rw [Cert.OutEvenRefIdeal.Read.val_main_v28_eq, (hagree c).1, (hagree c).2.1, (hagree c).2.2.1, (hagree c).2.2.2.1, (hagree c).2.2.2.2.1, (hagree c).2.2.2.2.2]

end Cert.Proof.OutEven

end
-- ==== Proof.ExpertsIdealRun.lean ====
/-
  The expert call run at ANY admissible tables: the staging buffers' contents at a grid point, the body's two paths
  (a block in use, an unused block), the proof data of the pipeline and the run of ExpertsIdeal's @main. The tables' contents
  `a` are a variable throughout; the only thing asked of them is the program's own side condition.
-/
module

public import proofs.«01_k».proof.Proof.Gen.ExpertsIdeal.Launch
public import proofs.«01_k».proof.Proof.Gen.ExpertsIdeal.Skeleton
public import Idealize.ShloMosaic.Lib.Pipeline.Quiescent
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.ExpertsIdealRun

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: after the host operations. -/
abbrev V (c : Dev nD) (b : Ref sig .tc) : Buf (Elt F) ((c : Thread nD τ).loc b) := StableHlo.after hostOps0 (fun b => m (c, b)) b

/-- No host operation allocates. -/
theorem host_fresh : (hostOps0 : List (HloOp τ sig (Elt F))).Forall fun op => op.fresh = ∅ := by
  simp only [List.Forall]; repeat' constructor

/-- @main is the host operations and then the region. -/
theorem main_runs (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub host_fresh main_chain

/-- The region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))

/-- The region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))

/-- The region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-- The region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))

/-- The region finds `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))

/-- The region finds `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))

/-- The region finds `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))

/-! ## The pipeline at the tables -/

variable (a : (pcfg0 (F := F)).Adm)

/-- The pipeline at the tables' contents `a`. -/
abbrev cfgA : Pipeline.Cfg sig Λ₀ := cfg0 (F := F) a

/-- Window `w`'s block at point `t`, of its array as the region finds it. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (V m c (Pipeline.arrRef spec0 w))

/-- The table of experts and the count of used blocks, as the body addresses them. -/
abbrev tbe : Memref sig .tc .smem S160 .i32 := Memref.whole main_arg1
abbrev tnu : Memref sig .tc .smem S1 .i32 := Memref.whole main_arg2

/-- The word the body reads: the count of used blocks. -/
abbrev word (T1 : S1.Idx → Elt F .i32) : BitVec 32 :=
  View.readAt (Elt F) tnu.view (Rect.unit (s := S1) ![0] S1.size inb_S1_S1_0).toLoadRect T1 (Shape.Idx.first (numel1_S1.symm ▸ Nat.one_pos))

/-- The whole of each staging buffer, as the body addresses it. -/
abbrev rX : Rect S256x2048 := Rect.unit (s := S256x2048) ![0, 0] S256x2048.size inb_S256x2048_S256x2048_0_0
abbrev rW : Rect S1x2048x1024 := Rect.unit (s := S1x2048x1024) ![0, 0, 0] S1x2048x1024.size inb_S1x2048x1024_S1x2048x1024_0_0_0
abbrev rB : Rect S1x1x1024 := Rect.unit (s := S1x1x1024) ![0, 0, 0] S1x1x1024.size inb_S1x1x1024_S1x1x1024_0_0_0
abbrev rD : Rect S1x1024x2048 := Rect.unit (s := S1x1024x2048) ![0, 0, 0] S1x1024x2048.size inb_S1x1024x2048_S1x1024x2048_0_0_0
abbrev rE : Rect S1x1x2048 := Rect.unit (s := S1x1x2048) ![0, 0, 0] S1x1x2048.size inb_S1x1x2048_S1x1x2048_0_0_0

/-- What a block in use gets: the expert's rows. -/
def outUsed (x0 : Vec F S256x2048 .f32) (x1 x2 : Vec F S1x2048x1024 .bf16) (x3 x4 : Vec F S1x1x1024 .f32) (x5 : Vec F S1x1024x2048 .bf16)
    (x6 : Vec F S1x1x2048 .f32) : Vec F S256x2048 .f32 :=
  View.canon [⟨rX, k0_pay1 (k0_pay3 (View.ld x0 rX) (View.ld x1 rW) (View.ld x3 rB) (View.ld x2 rW) (View.ld x4 rB) (View.ld x5 rD)) (View.ld x6 rE)⟩]

/-- What an unused block gets: zeros. -/
def outUnused : Vec F S256x2048 .f32 := View.canon [⟨rX, k0_pay2⟩]

/-- A store of a whole block covers it. -/
theorem covers (p0 : Vec F S256x2048 .f32) (y : S256x2048.Idx) : ∃ pc ∈ ([⟨rX, p0⟩] : List (View.Piece (Elt F) S256x2048 .f32)), y ∈ pc.1.set :=
  View.cover_of_tiled [⟨rX, p0⟩] S256x2048.size (by rfl) y

/-- A block is in use exactly when it is not unused: the body takes one of its two branches at every point. -/
theorem cond2_iff (i : grid0.Coords) (v : BitVec 32) : k0_cond2 i v = 1#1 ↔ ¬ k0_cond1 i v = 1#1 := by
  unfold k0_cond1 k0_cond2
  simp only [Scalar.cmpi, Scalar.extui, IntOp.cmpi, BitVec.sle_eq_not_slt]
  cases (BitVec.ofNat 32 (i 0).val).slt v <;> decide

set_option maxHeartbeats 4000000 in
/-- The body at a block in use, on whole staging memrefs: the inputs and the tables end as they were and the output's
    buffer holds the expert's rows. -/
theorem runs_used (c : Dev nD) (i : grid0.Coords) (arg3 : Memref sig .tc .vmem S256x2048 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x2048 .bf16) (harg8 : arg8.IsWhole) (arg9 : Memref sig .tc .vmem S1x1x2048 .f32) (harg9 : arg9.IsWhole) (arg10 : Memref sig .tc .vmem S256x2048 .f32) (harg10 : arg10.IsWhole)
    (T0 : S160.Idx → Elt F .i32) (T1 : S1.Idx → Elt F .i32) (x0 : Vec F S256x2048 .f32) (x1 x2 : Vec F S1x2048x1024 .bf16) (x3 x4 : Vec F S1x1x1024 .f32) (x5 : Vec F S1x1024x2048 .bf16) (x6 : Vec F S1x1x2048 .f32)
    (k0_h1 : k0_cond1 i (word T1) = 1#1) (k0_h2 : ¬ k0_cond2 i (word T1) = 1#1) (K : PUnit → sProp 𝕄) :
    iprop((tbe.view.loc (c : Thread nD τ) ↦{fullShare.right} T0) ∗ (tnu.view.loc (c : Thread nD τ) ↦{fullShare.right} T1)
        ∗ owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6 ∗ (∃ d, owns (c : Thread nD τ) arg10 fullShare d)
        ∗ (iprop((tbe.view.loc (c : Thread nD τ) ↦{fullShare.right} T0) ∗ (tnu.view.loc (c : Thread nD τ) ↦{fullShare.right} T1)
        ∗ owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6 ∗ owns (c : Thread nD τ) arg10 fullShare (outUsed x0 x1 x2 x3 x4 x5 x6)) -∗ K ⟨⟩))
      ⊢ wp frame (wpE (defs₀ (F := F)) Variants.none c none) Set.univ (cc0_moe_experts i tbe (Memref.isWhole_whole _) tnu (Memref.isWhole_whole _) arg3 harg3 arg4 harg4 arg5 harg5 arg6 harg6 arg7 harg7 arg8 harg8 arg9 harg9 arg10 harg10) K := by
  rw [cc0_moe_experts_eq_skeleton]; unfold cc0_moe_experts_skel
  unfold owns
  iintro ⟨HT0, HT1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  have hT0 : tbe.IsWhole := Memref.isWhole_whole _
  have hT1 : tnu.IsWhole := Memref.isWhole_whole _
  sl_exec! (disch := first | (guard_target = k0_cond1 _ _ = _; exact k0_h1) | (guard_target = ¬(k0_cond2 _ _ = _); exact k0_h2))
  sl_step
  iapply Hk
  isplitl [HT0]; · iexact HT0
  isplitl [HT1]; · iexact HT1
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (covers _)

set_option maxHeartbeats 4000000 in
/-- The body at an unused block: the inputs and the tables end as they were and the output's buffer holds zeros. -/
theorem runs_unused (c : Dev nD) (i : grid0.Coords) (arg3 : Memref sig .tc .vmem S256x2048 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x2048 .bf16) (harg8 : arg8.IsWhole) (arg9 : Memref sig .tc .vmem S1x1x2048 .f32) (harg9 : arg9.IsWhole) (arg10 : Memref sig .tc .vmem S256x2048 .f32) (harg10 : arg10.IsWhole)
    (T1 : S1.Idx → Elt F .i32) (k0_h1 : ¬ k0_cond1 i (word T1) = 1#1) (k0_h2 : k0_cond2 i (word T1) = 1#1) (K : PUnit → sProp 𝕄) :
    iprop((tnu.view.loc (c : Thread nD τ) ↦{fullShare.right} T1) ∗ (∃ d, owns (c : Thread nD τ) arg10 fullShare d)
        ∗ (iprop((tnu.view.loc (c : Thread nD τ) ↦{fullShare.right} T1) ∗ owns (c : Thread nD τ) arg10 fullShare outUnused) -∗ K ⟨⟩))
      ⊢ wp frame (wpE (defs₀ (F := F)) Variants.none c none) Set.univ (cc0_moe_experts i tbe (Memref.isWhole_whole _) tnu (Memref.isWhole_whole _) arg3 harg3 arg4 harg4 arg5 harg5 arg6 harg6 arg7 harg7 arg8 harg8 arg9 harg9 arg10 harg10) K := by
  rw [cc0_moe_experts_eq_skeleton]; unfold cc0_moe_experts_skel
  unfold owns
  iintro ⟨HT1, ⟨%d7, %f7, -, H7⟩, Hk⟩
  have hT1 : tnu.IsWhole := Memref.isWhole_whole _
  sl_exec! (disch := first | (guard_target = ¬(k0_cond1 _ _ = _); exact k0_h1) | (guard_target = k0_cond2 _ _ = _; exact k0_h2))
  sl_step
  iapply Hk
  isplitl [HT1]; · iexact HT1
  iexists _; isplitr
  swap; · iexact H7
  ipureintro
  exact View.read_writes_eq_canon _ _ _ (covers _)

/-! ## The proof data -/

/-- What the output's buffer holds after point `t`. -/
def outAt (c : Dev nD) (t : Fin (cfgA a).N) : Vec F S256x2048 .f32 :=
  if k0_cond1 ((cfgA a).grid.coords t) (word (a.1 1)) = 1#1 then
    outUsed (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t)
  else outUnused

/-- The proof data: every input's buffer at its block, the output's at `outAt`, the tables beside the class's invariant. -/
def dats (_ : Fin 1) (c : Dev nD) : Dat τ (Elt F) Unit ℕ (UR sig nD τ) ℕ (cfgA a) c where
  A w := V m c (Pipeline.arrRef spec0 w)
  after w t := match w with
    | ⟨0, _⟩ => iblk m a c (0 : Fin 8) t
    | ⟨1, _⟩ => iblk m a c (1 : Fin 8) t
    | ⟨2, _⟩ => iblk m a c (2 : Fin 8) t
    | ⟨3, _⟩ => iblk m a c (3 : Fin 8) t
    | ⟨4, _⟩ => iblk m a c (4 : Fin 8) t
    | ⟨5, _⟩ => iblk m a c (5 : Fin 8) t
    | ⟨6, _⟩ => iblk m a c (6 : Fin 8) t
    | ⟨7, _⟩ => outAt m a c t
  Φ _ := iprop(Pipeline.ΦA spec0 c ∗ Pipeline.ΦT pre0 a.1 c)
  q _ := fullShare
  owed _ := 0

/-- The arrays are as the region finds them. -/
theorem A_eq (c : Dev nD) (w : Fin (cfgA a).W) : (dats m a 0 c).A w = V m c (Pipeline.arrRef spec0 w) := by dsimp only [dats]

/-- Input 0's buffer holds its block after the body, -/
theorem after_0 (c : Dev nD) (t : Fin (cfgA a).N) : (dats m a 0 c).after (0 : Fin 8) t = iblk m a c (0 : Fin 8) t := by dsimp only [dats]
/-- and before it. -/
theorem before_0 (c : Dev nD) (t : Fin (cfgA a).N) (d) : (dats m a 0 c).before (0 : Fin 8) t d = iblk m a c (0 : Fin 8) t :=
  ((dats m a 0 c).before_in_eq_fetched (0 : Fin 8) rfl (fun _ => rfl) (fun _ _ _ => rfl) (fun t => by rw [after_0]; unfold Dat.blockOf iblk; rw [A_eq]; try rfl) t d).trans
    (by unfold Dat.fetched Dat.blockOf iblk; rw [A_eq]; try rfl)

/-- Input 1's buffer holds its block after the body, -/
theorem after_1 (c : Dev nD) (t : Fin (cfgA a).N) : (dats m a 0 c).after (1 : Fin 8) t = iblk m a c (1 : Fin 8) t := by dsimp only [dats]
/-- and before it. -/
theorem before_1 (c : Dev nD) (t : Fin (cfgA a).N) (d) : (dats m a 0 c).before (1 : Fin 8) t d = iblk m a c (1 : Fin 8) t :=
  ((dats m a 0 c).before_in_eq_fetched (1 : Fin 8) rfl (fun _ => rfl) (fun _ _ _ => rfl) (fun t => by rw [after_1]; unfold Dat.blockOf iblk; rw [A_eq]; try rfl) t d).trans
    (by unfold Dat.fetched Dat.blockOf iblk; rw [A_eq]; try rfl)

/-- Input 2's buffer holds its block after the body, -/
theorem after_2 (c : Dev nD) (t : Fin (cfgA a).N) : (dats m a 0 c).after (2 : Fin 8) t = iblk m a c (2 : Fin 8) t := by dsimp only [dats]
/-- and before it. -/
theorem before_2 (c : Dev nD) (t : Fin (cfgA a).N) (d) : (dats m a 0 c).before (2 : Fin 8) t d = iblk m a c (2 : Fin 8) t :=
  ((dats m a 0 c).before_in_eq_fetched (2 : Fin 8) rfl (fun _ => rfl) (fun _ _ _ => rfl) (fun t => by rw [after_2]; unfold Dat.blockOf iblk; rw [A_eq]; try rfl) t d).trans
    (by unfold Dat.fetched Dat.blockOf iblk; rw [A_eq]; try rfl)

/-- Input 3's buffer holds its block after the body, -/
theorem after_3 (c : Dev nD) (t : Fin (cfgA a).N) : (dats m a 0 c).after (3 : Fin 8) t = iblk m a c (3 : Fin 8) t := by dsimp only [dats]
/-- and before it. -/
theorem before_3 (c : Dev nD) (t : Fin (cfgA a).N) (d) : (dats m a 0 c).before (3 : Fin 8) t d = iblk m a c (3 : Fin 8) t :=
  ((dats m a 0 c).before_in_eq_fetched (3 : Fin 8) rfl (fun _ => rfl) (fun _ _ _ => rfl) (fun t => by rw [after_3]; unfold Dat.blockOf iblk; rw [A_eq]; try rfl) t d).trans
    (by unfold Dat.fetched Dat.blockOf iblk; rw [A_eq]; try rfl)

/-- Input 4's buffer holds its block after the body, -/
theorem after_4 (c : Dev nD) (t : Fin (cfgA a).N) : (dats m a 0 c).after (4 : Fin 8) t = iblk m a c (4 : Fin 8) t := by dsimp only [dats]
/-- and before it. -/
theorem before_4 (c : Dev nD) (t : Fin (cfgA a).N) (d) : (dats m a 0 c).before (4 : Fin 8) t d = iblk m a c (4 : Fin 8) t :=
  ((dats m a 0 c).before_in_eq_fetched (4 : Fin 8) rfl (fun _ => rfl) (fun _ _ _ => rfl) (fun t => by rw [after_4]; unfold Dat.blockOf iblk; rw [A_eq]; try rfl) t d).trans
    (by unfold Dat.fetched Dat.blockOf iblk; rw [A_eq]; try rfl)

/-- Input 5's buffer holds its block after the body, -/
theorem after_5 (c : Dev nD) (t : Fin (cfgA a).N) : (dats m a 0 c).after (5 : Fin 8) t = iblk m a c (5 : Fin 8) t := by dsimp only [dats]
/-- and before it. -/
theorem before_5 (c : Dev nD) (t : Fin (cfgA a).N) (d) : (dats m a 0 c).before (5 : Fin 8) t d = iblk m a c (5 : Fin 8) t :=
  ((dats m a 0 c).before_in_eq_fetched (5 : Fin 8) rfl (fun _ => rfl) (fun _ _ _ => rfl) (fun t => by rw [after_5]; unfold Dat.blockOf iblk; rw [A_eq]; try rfl) t d).trans
    (by unfold Dat.fetched Dat.blockOf iblk; rw [A_eq]; try rfl)

/-- Input 6's buffer holds its block after the body, -/
theorem after_6 (c : Dev nD) (t : Fin (cfgA a).N) : (dats m a 0 c).after (6 : Fin 8) t = iblk m a c (6 : Fin 8) t := by dsimp only [dats]
/-- and before it. -/
theorem before_6 (c : Dev nD) (t : Fin (cfgA a).N) (d) : (dats m a 0 c).before (6 : Fin 8) t d = iblk m a c (6 : Fin 8) t :=
  ((dats m a 0 c).before_in_eq_fetched (6 : Fin 8) rfl (fun _ => rfl) (fun _ _ _ => rfl) (fun t => by rw [after_6]; unfold Dat.blockOf iblk; rw [A_eq]; try rfl) t d).trans
    (by unfold Dat.fetched Dat.blockOf iblk; rw [A_eq]; try rfl)

/-- What the output's buffer holds after the body. -/
theorem after_7 (c : Dev nD) (t : Fin (cfgA a).N) : (dats m a 0 c).after (7 : Fin 8) t = outAt m a c t := by dsimp only [dats]

/-! ## The body at every point -/

/-- The tables one by one. -/
theorem tables_eq (c : Dev nD) (v : pre0.Contents (Elt F)) :
    (Pipeline.ΦT (U := UR sig nD τ) pre0 v c : sProp 𝕄)
      = iprop((tbe.view.loc (c : Thread nD τ) ↦{fullShare.right} v 0) ∗ (tnu.view.loc (c : Thread nD τ) ↦{fullShare.right} v 1)) := by
  unfold Pipeline.ΦT Pipeline.prefHeld
  rw [show (Finset.univ : Finset (Fin 2)) = insert (0 : Fin 2) {(1 : Fin 2)} from by decide, bigSep_insert (by decide), bigSep_singleton]
  rfl

/-- No window is idle at any point. -/
theorem not_idle (w : Fin (cfgA a).W) (i : (cfgA a).grid.Coords) : (cfgA a).idle w i = false := by
  have h7 : ∀ i, (!(k0_cond1 i (a.1.atD 1 ![0]) == 1#1) && !(k0_cond2 i (a.1.atD 1 ![0]) == 1#1)) = false := fun i => by
    by_cases h : k0_cond1 i (a.1.atD 1 ![0]) = 1#1
    · simp [h]
    · simp [(cond2_iff i _).mpr h]
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => exact h7 i
  | ⟨_ + 8, h⟩ => exact absurd h (Nat.not_lt.2 (Nat.le_add_left _ _))

set_option maxHeartbeats 4000000 in
/-- The body's obligation at every point, whichever branch it takes. -/
theorem body_obligation (c : Dev nD) : BodyObligation (dats (F := F) m a 0 c) (defs₀ (F := F)) Variants.none () Set.univ := fun t => by
  rw [bigSep_W0, bigSep_W0]
  have i7 : (cfgA a).idle (7 : Fin 8) ((cfgA a).grid.coords t) = false := not_idle a (7 : Fin 8) ((cfgA a).grid.coords t)
  rewrite [i7]
  simp only [before_0, before_1, before_2, before_3, before_4, before_5, before_6, after_0, after_1, after_2, after_3, after_4, after_5, after_6, after_7]
  rewrite [show (dats m a 0 c).Φ t.succ = iprop(Pipeline.ΦA spec0 c ∗ Pipeline.ΦT pre0 a.1 c) from rfl, show (dats m a 0 c).Φ t.castSucc = iprop(Pipeline.ΦA spec0 c ∗ Pipeline.ΦT pre0 a.1 c) from rfl,
    show (dats m a 0 c).owesAt () t.succ = (dats m a 0 c).owesAt () t.castSucc from rfl, tables_eq]
  iintro ⟨⟨HA, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases k0_h1 : k0_cond1 ((cfgA a).grid.coords t) (word (a.1 1)) = 1#1
  · rewrite [show outAt m a c t = outUsed (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) from if_pos k0_h1]
    iapply (runs_used c ((cfgA a).grid.coords t) _ (hstage0_0 (((cfgA a).slots t (0 : Fin 8)).cast nbuf0_0)) _ (hstage0_1 (((cfgA a).slots t (1 : Fin 8)).cast nbuf0_1)) _ (hstage0_2 (((cfgA a).slots t (2 : Fin 8)).cast nbuf0_2)) _ (hstage0_3 (((cfgA a).slots t (3 : Fin 8)).cast nbuf0_3)) _ (hstage0_4 (((cfgA a).slots t (4 : Fin 8)).cast nbuf0_4)) _ (hstage0_5 (((cfgA a).slots t (5 : Fin 8)).cast nbuf0_5)) _ (hstage0_6 (((cfgA a).slots t (6 : Fin 8)).cast nbuf0_6)) _ (hstage0_7 (((cfgA a).slots t (7 : Fin 8)).cast nbuf0_7))
      (a.1 0) (a.1 1) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t) k0_h1 (fun h => (cond2_iff _ _).mp h k0_h1) _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨HT0, HT1, H0, H1, H2, H3, H4, H5, H6, H7⟩
    isplitl [HA HT0 HT1]
    · isplitl [HA]; · iexact HA
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rewrite [show outAt m a c t = outUnused from if_neg k0_h1]
    iapply (runs_unused c ((cfgA a).grid.coords t) _ (hstage0_0 (((cfgA a).slots t (0 : Fin 8)).cast nbuf0_0)) _ (hstage0_1 (((cfgA a).slots t (1 : Fin 8)).cast nbuf0_1)) _ (hstage0_2 (((cfgA a).slots t (2 : Fin 8)).cast nbuf0_2)) _ (hstage0_3 (((cfgA a).slots t (3 : Fin 8)).cast nbuf0_3)) _ (hstage0_4 (((cfgA a).slots t (4 : Fin 8)).cast nbuf0_4)) _ (hstage0_5 (((cfgA a).slots t (5 : Fin 8)).cast nbuf0_5)) _ (hstage0_6 (((cfgA a).slots t (6 : Fin 8)).cast nbuf0_6)) _ (hstage0_7 (((cfgA a).slots t (7 : Fin 8)).cast nbuf0_7))
      (a.1 1) k0_h1 ((cond2_iff _ _).mpr k0_h1) _)
    isplitl [HT1]; · iexact HT1
    isplitl [H7]; · iexists _; iexact H7
    iintro ⟨HT1, H7⟩
    isplitl [HA HT0 HT1]
    · isplitl [HA]; · iexact HA
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The run -/

set_option backward.isDefEq.respectTransparency.types false in
set_option maxHeartbeats 1600000 in
/-- The run of @main from a memory whose tables are `a`: every array ends at what the pipeline computes, every other
    buffer as the region found it, and every semaphore counter at zero. -/
theorem run_main (hT : ∀ (c : Dev nD) (k : Fin 2), V m c (pre0.ref k) = a.1 k) :
    θ_run defs (onTc (τ := τ) (main (F := F))) (s₀ m ρ)
      (fun r => Pipeline.FramePost (Pipeline.pin (pcfgs (F := F)) fun _ => a) (dats m a) 0 (V m) r ∧ r.2.sem = fun _ => 0) :=
  Pipeline.θ_run_frameP (Q' := _) (pcfgs (F := F)) (fun _ => a) (dats m a) (0 : Fin 1) launch0 defs₀ Variants.none m ρ main
    (hbody := fun c => (body_obligation m a c).loose) (hshare := fun c => (dats m a 0 c).share_full fun _ => rfl)
    (howed := fun _ _ => rfl) (V := V m) (hmain := main_runs m Variants.none) (hA := A_eq m a) (hpf := hT) (hΦ := fun _ _ => rfl)

/-- The run from tables `a`, read: the result array ends at what the points' blocks leave, every argument array as it was, every semaphore counter at zero. -/
theorem run_all (hT : ∀ (c : Dev nD) (k : Fin 2), V m c (pre0.ref k) = a.1 k) :
    θ_run defs (onTc (τ := τ) (main (F := F))) ⟨m, fun _ => 0, ρ⟩ (fun r => (∀ c : Dev nD,
      r.2.mem ((c.tc : Thread nD τ).loc main_v10) = (dats m a 0 c).arrAt (7 : Fin 8) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 (7 : Fin 8), ((h.1 c).1 (0 : Fin 8)).trans (((dats m a 0 c).arrAt_in (0 : Fin 8) rfl _).trans ((A_eq m a c 0).trans (V_main_arg0 m c))),
      ((h.1 c).2 main_arg1 (Pipeline.mem_restRefs_of (win := spec0) main_arg1 (by decide) (by decide))).trans (V_main_arg1 m c),
      ((h.1 c).2 main_arg2 (Pipeline.mem_restRefs_of (win := spec0) main_arg2 (by decide) (by decide))).trans (V_main_arg2 m c),
      ((h.1 c).2 main_arg3 (Pipeline.mem_restRefs_of (win := spec0) main_arg3 (by decide) (by decide))).trans (V_main_arg3 m c),
      ((h.1 c).2 main_arg4 (Pipeline.mem_restRefs_of (win := spec0) main_arg4 (by decide) (by decide))).trans (V_main_arg4 m c),
      ((h.1 c).2 main_arg5 (Pipeline.mem_restRefs_of (win := spec0) main_arg5 (by decide) (by decide))).trans (V_main_arg5 m c),
      ((h.1 c).2 main_arg6 (Pipeline.mem_restRefs_of (win := spec0) main_arg6 (by decide) (by decide))).trans (V_main_arg6 m c)⟩, h.2⟩) (run_main m ρ a hT)

/-- The frame from tables `a`: every argument array ends as it was and every semaphore counter at zero. -/
theorem frame_at (hT : ∀ (c : Dev nD) (k : Fin 2), V m c (pre0.ref k) = a.1 k) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_all m ρ a hT)

end Cert.Proof.ExpertsIdealRun

end
-- ==== Proof.ExpertsTables.lean ====
/-
  The tables that the precondition admits: every entry of the table of experts names one of the 32 experts, so the
  block that a grid point takes of each weight array lies inside the array.
-/
module

public import proofs.«01_k».proof.Defs
public import proofs.«01_k».proof.Proof.ExpertsIdealRun
public import proofs.«01_k».proof.Proof.Gen.Pre_experts_in_range
public import Idealize.ShloMosaic.Lib.ReduceAll

@[expose] public section

set_option maxRecDepth 16384

noncomputable section

open Idealize.ShloMosaic Idealize.ShloMosaic.TcCoe Idealize.SL.Sem

namespace Cert.Pre_experts_in_range.Entry
open Cert.Pre_experts_in_range

variable {F : FTy → Type} [FloatOps F]

instance : Subsingleton S_.Idx := ⟨fun _ _ => funext fun a => a.elim0⟩

/-- The precondition, entry by entry: every expert number is at least 0 and less than 32. -/
theorem signed (x0 : Vec F S40960x2048 .f32) (be : IVec S160 32) (nu : IVec S1 32) (x3 : Vec F S32x2048x2048 .f32) (x4 : Vec F S32x2048 .f32)
    (x5 : Vec F S32x1024x2048 .f32) (x6 : Vec F S32x2048 .f32) (h : fn (F := F) x0 be nu x3 x4 x5 x6 = fun _ => 1#1) (j : S160.Idx) :
    0 ≤ (be j).toInt ∧ (be j).toInt < 32 := by
  have and1 : ∀ a b : BitVec 1, IntOp.andi a b = 1#1 → a = 1#1 ∧ b = 1#1 := by decide
  have bool1 : ∀ p : Bool, BitVec.ofBool p = 1#1 → p = true := by decide
  have hj := and1 _ _ (Host.reduce_andi_all _ _ Facts.reducesTo_S160_S_d0 Facts.h_S_ (Shape.Idx.first Facts.h_S_) (congrFun h _) j)
  have h0 : (0#32).sle (be j) = true := bool1 _ hj.1
  have h1 : (be j).slt 32#32 = true := bool1 _ hj.2
  rw [BitVec.sle_iff_toInt_le] at h0
  rw [BitVec.slt_iff_toInt_lt] at h1
  exact ⟨h0, h1⟩

end Cert.Pre_experts_in_range.Entry

namespace Cert.ExpertsIdeal.Tables
open Cert.ExpertsIdeal Cert.ExpertsIdeal.Gen Cert.Proof.ExpertsIdealRun

variable {F : FTy → Type} [FloatOps F]

/-- A word that is at least 0 and less than 32 as a signed number is less than 32 as an unsigned one. -/
theorem toNat_lt (b : BitVec 32) (h : 0 ≤ b.toInt ∧ b.toInt < 32) : b.toNat < 32 := by
  have := b.isLt
  rw [BitVec.toInt] at h
  split at h <;> omega

/-- Tables whose expert numbers are less than 32 are admissible: every block is inside its array. -/
theorem ok_of (pf : pre0.Contents (Elt F)) (h : ∀ j : S160.Idx, BitVec.toNat (w := 32) (pf 0 j) < 32) : ok0 pf := by
  refine ⟨fun i => ⟨fun a => ?_, ?_⟩, fun i => ⟨fun a => ?_, ?_⟩, fun i => ⟨fun a => ?_, ?_⟩, fun i => ⟨fun a => ?_, ?_⟩, fun i => ⟨fun a => ?_, ?_⟩,
    fun i => ⟨fun a => ?_, ?_⟩⟩
  case refine_1 | refine_3 | refine_5 | refine_7 | refine_9 | refine_11 =>
    match a with
    | ⟨0, _⟩ => exact (Nat.mul_one _).trans_le (Nat.succ_le_of_lt (h _))
    | ⟨1, _⟩ => exact Nat.le_of_eq (Nat.one_mul _)
    | ⟨2, _⟩ => exact Nat.le_of_eq (Nat.one_mul _)
  · exact .inr (Affine.block_words_dvd (s := S32x2048x1024) (p := EltTy.packing .bf16) (by decide) (by decide))
  · exact .inr (Affine.block_words_dvd (s := S32x2048x1024) (p := EltTy.packing .bf16) (by decide) (by decide))
  · exact .inl rfl
  · exact .inl rfl
  · exact .inr (Affine.block_words_dvd (s := S32x1024x2048) (p := EltTy.packing .bf16) (by decide) (by decide))
  · exact .inl rfl

variable (m : (ℓ : Loc nD τ sig) → Buf (Elt F) ℓ) (ρ : Dev nD → PrngReg)

/-- The tables as launched. -/
abbrev tables : pre0.Contents (Elt F) := fun k => match k with
  | ⟨0, _⟩ => m (((0 : Dev nD) : Thread nD τ).loc main_arg1)
  | ⟨1, _⟩ => m (((0 : Dev nD) : Thread nD τ).loc main_arg2)

/-- The region finds the tables as launched. -/
theorem found (c : Dev nD) (k : Fin 2) : V m c (pre0.ref k) = tables m k := by
  obtain rfl : c = 0 := Subsingleton.elim _ _
  match k with
  | ⟨0, _⟩ => exact V_main_arg1 m 0
  | ⟨1, _⟩ => exact V_main_arg2 m 0

/-- The admissible tables that the precondition gives. -/
abbrev adm (h : ∀ j : S160.Idx, BitVec.toNat (w := 32) (m (((0 : Dev nD) : Thread nD τ).loc main_arg1) j) < 32) : (pcfg0 (F := F)).Adm :=
  ⟨tables m, ok_of (tables m) h⟩

end Cert.ExpertsIdeal.Tables

namespace Cert.Proof.ExpertsTables

/-- The idealization leaves its arguments as they were. -/
theorem frame_pi : Cert.quiescent_ExpertsIdeal := fun m ρ h =>
  ExpertsIdealRun.frame_at (F := Ideal) m ρ
    (Cert.ExpertsIdeal.Tables.adm m fun j => Cert.ExpertsIdeal.Tables.toNat_lt _ (Cert.Pre_experts_in_range.Entry.signed _ _ _ _ _ _ _ (h 0) j))
    (Cert.ExpertsIdeal.Tables.found m)

end Cert.Proof.ExpertsTables

end
-- ==== Proof.ExpertRows.lean ====
module

public import proofs.«01_k».proof.Proof.Gen.ExpertsRefIdeal.Read
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pointwise

/-! One row through one expert, over the extended reals, and the reference of the expert call read down to it. -/

namespace Cert.ExpertRow

/-- The clamped gated activation: the gate capped at 7, the other half clamped to ±7, gated by a logistic of slope 1.702. -/
def act (g u : EReal) : EReal :=
  (min (Ideal.ofBits .f32 0x40E00000#32) (max (Ideal.ofBits .f32 0xC0E00000#32) u) + 1) * min g (Ideal.ofBits .f32 0x40E00000#32)
    * Ideal.logistic (Ideal.ofBits .f32 0x3FD9DB23#32 * min g (Ideal.ofBits .f32 0x40E00000#32))

/-- A row through an expert: both halves of the first layer, the activation, the second layer. -/
def through (x : Fin 2048 → EReal) (wg wu : Fin 2048 → Fin 1024 → EReal) (bg bu : Fin 1024 → EReal)
    (wd : Fin 1024 → Fin 2048 → EReal) (bd : Fin 2048 → EReal) (j : Fin 2048) : EReal :=
  (∑ f : Fin 1024, act ((∑ k : Fin 2048, x k * wg k f) + bg f) ((∑ k : Fin 2048, x k * wu k f) + bu f) * wd f j) + bd j

/-- Column `2 f` of the interleaved first layer: the gate's. -/
abbrev even (f : Fin 1024) : Fin 2048 := ⟨2 * f.val, by omega⟩
/-- Column `2 f + 1` of the interleaved first layer: the other half's. -/
abbrev odd (f : Fin 1024) : Fin 2048 := ⟨2 * f.val + 1, by omega⟩

/-- A row through expert `e` of the weights as the layer holds them. -/
def expert (x : Fin 2048 → EReal) (wgu : Fin 32 → Fin 2048 → Fin 2048 → EReal) (bgu : Fin 32 → Fin 2048 → EReal)
    (wd : Fin 32 → Fin 1024 → Fin 2048 → EReal) (bd : Fin 32 → Fin 2048 → EReal) (e : Fin 32) (j : Fin 2048) : EReal :=
  through x (fun k f => wgu e k (even f)) (fun k f => wgu e k (odd f)) (fun f => bgu e (even f)) (fun f => bgu e (odd f))
    (wd e) (bd e) j

end Cert.ExpertRow

namespace Cert.ExpertsRefIdeal.Entry
open Cert.ExpertsRefIdeal Cert.ExpertsRefIdeal.Gen Cert.ExpertsRefIdeal.Read

/-! ## Picking an expert's slab of an array of 32 -/

/-- The dimension numbers of a pick of whole matrices. -/
abbrev slabs (B C : Nat) (wf : GatherDims.WF ⟨3, ![32, B, C]⟩ S160x1 ⟨3, ![160, B, C]⟩ [1, 2] [0] [] [0] [] 1 ![1, B, C]) :
    GatherDims ⟨3, ![32, B, C]⟩ S160x1 ⟨3, ![160, B, C]⟩ where
  offsetDims := [1, 2]
  collapsedSliceDims := [0]
  operandBatchingDims := []
  startIndicesBatchingDims := []
  startIndexMap := [0]
  indexVectorDim := 1
  sliceSizes := ![1, B, C]
  wf := wf

/-- Picking matrices: entry `(n, i, j)` is entry `(i, j)` of the matrix that word `n` names. -/
theorem slabs_at {B C : Nat} (wf : GatherDims.WF ⟨3, ![32, B, C]⟩ S160x1 ⟨3, ![160, B, C]⟩ [1, 2] [0] [] [0] [] 1 ![1, B, C])
    (x : (⟨3, ![32, B, C]⟩ : Shape).Idx → EReal) (idx : IVec S160x1 32) (n : Fin 160) (i : Fin B) (j : Fin C) (e : Fin 32)
    (he : (idx (ix2 n 0)).toInt = e.val) : Host.gather (slabs B C wf) x idx (ix3 n i j) = x (ix3 e i j) := by
  unfold Host.gather
  refine congrArg x (funext fun a => Fin.ext ?_)
  show (slabs B C wf).start (ix3 n i j) idx a + (slabs B C wf).batchCoord (ix3 n i j) a + (slabs B C wf).offCoord (ix3 n i j) a = _
  rw [GatherDims.batchCoord_eq_zero _ _ _ List.not_mem_nil]
  have hs : (slabs B C wf).siIdx (ix3 n i j) ⟨List.idxOf (0 : Fin 3) (slabs B C wf).startIndexMap,
      List.idxOf_lt_length_iff.2 (List.mem_singleton.mpr rfl)⟩ = ix2 n 0 := by
    funext b; refine Fin.ext ?_
    match b with
    | ⟨0, _⟩ => rfl
    | ⟨1, _⟩ => rfl
  have s0 : (slabs B C wf).start (ix3 n i j) idx 0 = e.val := by
    unfold GatherDims.start
    rw [dif_pos (show (0 : Fin 3) ∈ (slabs B C wf).startIndexMap from List.mem_singleton.mpr rfl), hs, he]
    show min e.val (32 - 1) = e.val
    have := e.isLt
    omega
  have o0 : (slabs B C wf).offCoord (ix3 n i j) 0 = 0 :=
    GatherDims.offCoord_eq_zero _ _ _ (fun h => ((GatherDims.mem_sKept _ _).mp h).1 (List.mem_singleton.mpr rfl))
  have sk : ∀ a : Fin 3, a ≠ 0 → (slabs B C wf).start (ix3 n i j) idx a = 0 := fun a ha => by
    unfold GatherDims.start
    exact dif_neg (fun h => ha (List.mem_singleton.mp h))
  match a with
  | ⟨0, _⟩ =>
    show (slabs B C wf).start (ix3 n i j) idx 0 + 0 + (slabs B C wf).offCoord (ix3 n i j) 0 = e.val
    rw [s0, o0]; rfl
  | ⟨1, _⟩ =>
    show (slabs B C wf).start (ix3 n i j) idx 1 + 0 + (slabs B C wf).offCoord (ix3 n i j) 1 = _
    rw [sk 1 (by decide)]; exact (Nat.zero_add _).trans rfl
  | ⟨2, _⟩ =>
    show (slabs B C wf).start (ix3 n i j) idx 2 + 0 + (slabs B C wf).offCoord (ix3 n i j) 2 = _
    rw [sk 2 (by decide)]; exact (Nat.zero_add _).trans rfl

/-- Picking rows: entry `(n, j)` is entry `j` of the row that word `n` names. -/
theorem rows_at (x : S32x2048.Idx → EReal) (idx : IVec S160x1 32) (n : Fin 160) (j : Fin 2048) (e : Fin 32)
    (he : (idx (ix2 n 0)).toInt = e.val) : Host.gather gather_S32x2048_S160x1_S160x2048_1_0_n_n_0_1_12048 x idx (ix2 n j) = x (ix2 e j) := by
  unfold Host.gather
  refine congrArg x (funext fun a => Fin.ext ?_)
  show (gather_S32x2048_S160x1_S160x2048_1_0_n_n_0_1_12048).start (ix2 n j) idx a + (gather_S32x2048_S160x1_S160x2048_1_0_n_n_0_1_12048).batchCoord (ix2 n j) a + (gather_S32x2048_S160x1_S160x2048_1_0_n_n_0_1_12048).offCoord (ix2 n j) a = _
  rw [GatherDims.batchCoord_eq_zero _ _ _ List.not_mem_nil]
  have hs : (gather_S32x2048_S160x1_S160x2048_1_0_n_n_0_1_12048).siIdx (ix2 n j) ⟨List.idxOf (0 : Fin 2) (gather_S32x2048_S160x1_S160x2048_1_0_n_n_0_1_12048).startIndexMap,
      List.idxOf_lt_length_iff.2 (List.mem_singleton.mpr rfl)⟩ = ix2 n 0 := by
    funext b; refine Fin.ext ?_
    match b with
    | ⟨0, _⟩ => rfl
    | ⟨1, _⟩ => rfl
  have s0 : (gather_S32x2048_S160x1_S160x2048_1_0_n_n_0_1_12048).start (ix2 n j) idx 0 = e.val := by
    unfold GatherDims.start
    rw [dif_pos (show (0 : Fin 2) ∈ (gather_S32x2048_S160x1_S160x2048_1_0_n_n_0_1_12048).startIndexMap from List.mem_singleton.mpr rfl), hs, he]
    show min e.val (32 - 1) = e.val
    have := e.isLt
    omega
  have o0 : (gather_S32x2048_S160x1_S160x2048_1_0_n_n_0_1_12048).offCoord (ix2 n j) 0 = 0 :=
    GatherDims.offCoord_eq_zero _ _ _ (fun h => ((GatherDims.mem_sKept _ _).mp h).1 (List.mem_singleton.mpr rfl))
  have sk : ∀ a : Fin 2, a ≠ 0 → (gather_S32x2048_S160x1_S160x2048_1_0_n_n_0_1_12048).start (ix2 n j) idx a = 0 := fun a ha => by
    unfold GatherDims.start
    exact dif_neg (fun h => ha (List.mem_singleton.mp h))
  match a with
  | ⟨0, _⟩ =>
    show (gather_S32x2048_S160x1_S160x2048_1_0_n_n_0_1_12048).start (ix2 n j) idx 0 + 0 + (gather_S32x2048_S160x1_S160x2048_1_0_n_n_0_1_12048).offCoord (ix2 n j) 0 = e.val
    rw [s0, o0]; rfl
  | ⟨1, _⟩ =>
    show (gather_S32x2048_S160x1_S160x2048_1_0_n_n_0_1_12048).start (ix2 n j) idx 1 + 0 + (gather_S32x2048_S160x1_S160x2048_1_0_n_n_0_1_12048).offCoord (ix2 n j) 1 = _
    rw [sk 1 (by decide)]; exact (Nat.zero_add _).trans rfl

/-! ## The reference, entry by entry -/

variable (x0 : (⟨S40960x2048, .f32⟩ : BufTy).Contents (Elt Ideal)) (x1 : (⟨S160, .i32⟩ : BufTy).Contents (Elt Ideal))
  (x2 : (⟨S1, .i32⟩ : BufTy).Contents (Elt Ideal)) (x3 : (⟨S32x2048x2048, .f32⟩ : BufTy).Contents (Elt Ideal))
  (x4 : (⟨S32x2048, .f32⟩ : BufTy).Contents (Elt Ideal)) (x5 : (⟨S32x1024x2048, .f32⟩ : BufTy).Contents (Elt Ideal))
  (x6 : (⟨S32x2048, .f32⟩ : BufTy).Contents (Elt Ideal))

/-- An expert number that is not negative is not wrapped. -/
theorem wrapped (n : Fin 160) (e : Fin 32) (he : BitVec.toInt (n := 32) (x1 (ix1 n)) = e.val) :
    BitVec.toInt (n := 32) (val_main_v6 (F := Ideal) x1 (ix2 n 0)) = e.val := by
  have h : val_main_v6 (F := Ideal) x1 (ix2 n 0) = Scalar.select (IntOp.cmpi .slt (x1 (ix1 n)) 0#32) (IntOp.addi (x1 (ix1 n)) 32#32) (x1 (ix1 n)) := by
    pointwise [val_main_v6, val_main_v5, val_main_v4, val_main_v3, val_main_v2, val_main_v1, val_main_c, val_main_c_0]
  have hs : BitVec.slt (n := 32) (x1 (ix1 n)) 0#32 = false := by
    rw [BitVec.slt_eq_decide]
    exact decide_eq_false (by rw [he]; show ¬ ((e.val : Int) < 0); omega)
  rw [h]
  show BitVec.toInt (n := 32) (Scalar.select (BitVec.ofBool (BitVec.slt (n := 32) (x1 (ix1 n)) 0#32)) _ _) = _
  rw [hs]
  exact he

/-- The first layer, before it is split. -/
theorem first (n : Fin 160) (r : Fin 256) (f : Fin 2048) (e : Fin 32) (he : BitVec.toInt (n := 32) (x1 (ix1 n)) = e.val) :
    val_main_v18 (F := Ideal) x0 x1 x3 x4 (ix3 n r f)
      = (∑ k : Fin 2048, val_main_v0 (F := Ideal) x0 (ix3 n r k) * x3 (ix3 e k f)) + x4 (ix2 e f) := by
  have h3 : ∀ k : Fin 2048, val_main_v7 (F := Ideal) x1 x3 (ix3 n k f) = x3 (ix3 e k f) := fun k =>
    slabs_at (B := 2048) (C := 2048) Facts₀.gather_S32x2048x2048_S160x1_S160x2048x2048_12_0_n_n_0_1_120482048_wf x3 _ n k f e (wrapped x1 n e he)
  have h4 : val_main_v15 (F := Ideal) x1 x4 (ix2 n f) = x4 (ix2 e f) := rows_at x4 _ n f e (wrapped x1 n e he)
  have l : ∀ k, lidx_main_v8 (ix3 n r f) k = ix3 n r k := fun k => eq_ix3 _
  have q : ∀ k, ridx_main_v8 (ix3 n r f) k = ix3 n k f := fun k => eq_ix3 _
  have a : val_main_v8 (F := Ideal) x0 x1 x3 (ix3 n r f) = ∑ k : Fin 2048, val_main_v0 (F := Ideal) x0 (ix3 n r k) * x3 (ix3 e k f) :=
    (val_main_v8_apply x0 x1 x3 _).trans (Finset.sum_congr rfl fun k _ => by rw [l, q, h3])
  have b : val_main_v17 (F := Ideal) x1 x4 (ix3 n r f) = x4 (ix2 e f) := by
    rw [val_main_v17_apply, val_main_v16_apply]
    exact (congrArg _ (eq_ix2 _)).trans h4
  rw [val_main_v18_apply, a, b]
  rfl

/-- The activations. -/
theorem hidden (n : Fin 160) (r : Fin 256) (f : Fin 1024) (e : Fin 32) (he : BitVec.toInt (n := 32) (x1 (ix1 n)) = e.val) :
    val_main_v35 (F := Ideal) x0 x1 x3 x4 (ix3 n r f)
      = ExpertRow.act ((∑ k : Fin 2048, val_main_v0 (F := Ideal) x0 (ix3 n r k) * x3 (ix3 e k (ExpertRow.even f))) + x4 (ix2 e (ExpertRow.even f)))
          ((∑ k : Fin 2048, val_main_v0 (F := Ideal) x0 (ix3 n r k) * x3 (ix3 e k (ExpertRow.odd f))) + x4 (ix2 e (ExpertRow.odd f))) := by
  have hg : val_main_v19 (F := Ideal) x0 x1 x3 x4 (ix3 n r f) = val_main_v18 (F := Ideal) x0 x1 x3 x4 (ix3 n r (ExpertRow.even f)) := by
    unfold val_main_v19
    generalize val_main_v18 (F := Ideal) x0 x1 x3 x4 = z
    show z _ = z _
    refine congrArg z (funext fun a => Fin.ext ?_)
    match a with
    | ⟨0, _⟩ => show 0 + 1 * n.val = n.val; omega
    | ⟨1, _⟩ => show 0 + 1 * r.val = r.val; omega
    | ⟨2, _⟩ => show 0 + 2 * f.val = 2 * f.val; omega
  have hu : val_main_v20 (F := Ideal) x0 x1 x3 x4 (ix3 n r f) = val_main_v18 (F := Ideal) x0 x1 x3 x4 (ix3 n r (ExpertRow.odd f)) := by
    unfold val_main_v20
    generalize val_main_v18 (F := Ideal) x0 x1 x3 x4 = z
    show z _ = z _
    refine congrArg z (funext fun a => Fin.ext ?_)
    match a with
    | ⟨0, _⟩ => show 0 + 1 * n.val = n.val; omega
    | ⟨1, _⟩ => show 0 + 1 * r.val = r.val; omega
    | ⟨2, _⟩ => show 1 + 2 * f.val = 2 * f.val + 1; omega
  rw [← first x0 x1 x3 x4 n r _ e he, ← first x0 x1 x3 x4 n r _ e he, ← hg, ← hu]
  unfold val_main_v35 val_main_v34 val_main_v32 val_main_v30 val_main_v29 val_main_v28 val_main_v26 val_main_v25 val_main_v23 val_main_call0_v2 val_main_v22
  generalize val_main_v19 (F := Ideal) x0 x1 x3 x4 = g
  generalize val_main_v20 (F := Ideal) x0 x1 x3 x4 = u
  pointwise [val_main_v33, val_main_v31, val_main_v27, val_main_v24, val_main_call0_v4, val_main_call0_v3, val_main_call0_v1, val_main_call0_v0, val_main_v21,
    val_main_cst, val_main_cst_3, val_main_cst_4, val_main_cst_5, val_main_cst_6, val_main_cst_7, val_main_cst_8]
  rfl

/-- The second layer. -/
theorem second (n : Fin 160) (r : Fin 256) (j : Fin 2048) (e : Fin 32) (he : BitVec.toInt (n := 32) (x1 (ix1 n)) = e.val) :
    val_main_v53 (F := Ideal) x0 x1 x3 x4 x5 x6 (ix3 n r j)
      = ExpertRow.expert (fun k => val_main_v0 (F := Ideal) x0 (ix3 n r k)) (fun e k f => x3 (ix3 e k f)) (fun e f => x4 (ix2 e f))
          (fun e f j => x5 (ix3 e f j)) (fun e j => x6 (ix2 e j)) e j := by
  have h5 : ∀ f : Fin 1024, val_main_v42 (F := Ideal) x1 x5 (ix3 n f j) = x5 (ix3 e f j) := fun f =>
    slabs_at (B := 1024) (C := 2048) Facts₀.gather_S32x1024x2048_S160x1_S160x1024x2048_12_0_n_n_0_1_110242048_wf x5 _ n f j e (wrapped x1 n e he)
  have h6 : val_main_v50 (F := Ideal) x1 x6 (ix2 n j) = x6 (ix2 e j) := rows_at x6 _ n j e (wrapped x1 n e he)
  have l : ∀ k, lidx_main_v43 (ix3 n r j) k = ix3 n r k := fun k => eq_ix3 _
  have q : ∀ k, ridx_main_v43 (ix3 n r j) k = ix3 n k j := fun k => eq_ix3 _
  have a : val_main_v43 (F := Ideal) x0 x1 x3 x4 x5 (ix3 n r j) = _ :=
    (val_main_v43_apply x0 x1 x3 x4 x5 _).trans (Finset.sum_congr rfl fun f _ => by rw [l, q, h5, hidden x0 x1 x3 x4 n r f e he])
  have b : val_main_v52 (F := Ideal) x1 x6 (ix3 n r j) = x6 (ix2 e j) := by
    rw [val_main_v52_apply, val_main_v51_apply]
    exact (congrArg _ (eq_ix2 _)).trans h6
  rw [val_main_v53_apply, a, b]
  rfl

/-- The rows in blocks of 256. -/
theorem block_at (n : Fin 160) (r : Fin 256) (k : Fin 2048) (s : Fin 40960) (hs : s.val = n.val * 256 + r.val) :
    val_main_v0 (F := Ideal) x0 (ix3 n r k) = x0 (ix2 s k) := by
  rw [val_main_v0_apply]
  refine congrArg x0 (funext fun a => Fin.ext ?_)
  have := k.isLt
  match a with
  | ⟨0, _⟩ => show ((n.val * 256 + r.val) * 2048 + k.val) / 2048 = s.val; omega
  | ⟨1, _⟩ => show ((n.val * 256 + r.val) * 2048 + k.val) % 2048 = k.val; omega

/-- The reference's result, entry by entry: a row of a block in use goes through the block's expert, a row of an unused
    block is zero. -/
theorem result (n : Fin 160) (r : Fin 256) (j : Fin 2048) (e : Fin 32) (he : BitVec.toInt (n := 32) (x1 (ix1 n)) = e.val)
    (s : Fin 40960) (hs : s.val = n.val * 256 + r.val) :
    val_main_v60 (F := Ideal) x0 x1 x2 x3 x4 x5 x6 (ix2 s j)
      = bif BitVec.slt (BitVec.ofNat 32 n.val) (x2 (ix1 0)) then
          ExpertRow.expert (fun k => x0 (ix2 s k)) (fun e k f => x3 (ix3 e k f)) (fun e f => x4 (ix2 e f))
            (fun e f j => x5 (ix3 e f j)) (fun e j => x6 (ix2 e j)) e j
        else 0 := by
  have hj := j.isLt
  have hr := r.isLt
  have hi : idx_main_v60 (ix2 s j) = ix3 n r j := by
    refine funext fun a => Fin.ext ?_
    match a with
    | ⟨0, _⟩ => show (s.val * 2048 + j.val) / 524288 = n.val; omega
    | ⟨1, _⟩ => show (s.val * 2048 + j.val) / 2048 % 256 = r.val; omega
    | ⟨2, _⟩ => show (s.val * 2048 + j.val) % 2048 = j.val; omega
  have hm : val_main_call1_v1 (F := Ideal) x2 (ix3 n r j) = BitVec.ofBool (BitVec.slt (BitVec.ofNat 32 n.val) (x2 (ix1 0))) := by
    rw [val_main_call1_v1_apply, val_main_v58_apply, val_main_v57_apply, val_main_v56_apply, val_main_v54_apply]
    refine congrArg (fun b => BitVec.ofBool (BitVec.slt (BitVec.ofNat 32 n.val) b)) ?_
    unfold val_main_v55
    show x2 _ = x2 _
    exact congrArg x2 (eq_ix1 (n0 := 1) _ |>.trans (congrArg ix1 (Subsingleton.elim _ _)))
  have hz : val_main_call1_v2 (F := Ideal) (ix3 n r j) = 0 := by
    pointwise [val_main_call1_v2, val_main_call1_v0, val_main_cst_13]
    exact Ideal.ofBits_zero_f32
  rw [val_main_v60_apply, hi, val_main_v59_apply, hm, hz, second x0 x1 x3 x4 x5 x6 n r j e he]
  have hx : (fun k => val_main_v0 (F := Ideal) x0 (ix3 n r k)) = fun k => x0 (ix2 s k) := funext fun k => block_at x0 n r k s hs
  rw [hx]
  cases BitVec.slt (BitVec.ofNat 32 n.val) (x2 (ix1 0)) <;> rfl

end Cert.ExpertsRefIdeal.Entry

end
-- ==== Proof.Experts.lean ====
module

public import proofs.«01_k».proof.Proof.ExpertsTables
public import proofs.«01_k».proof.Proof.ExpertsRun
public import proofs.«01_k».proof.Proof.ExpertRows
public import proofs.«01_k».proof.Proof.Rows
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.Pointwise

/-! The expert call: every block of 256 rows through the expert that the table names for it. -/

namespace Cert.ExpertsIdeal.Entry
open Cert.ExpertsIdeal Cert.ExpertsIdeal.Gen Cert.Proof.ExpertsIdealRun Cert.ExpertsIdeal.Tables

/-! ## What the body stores -/

/-- What the body stores for a block in use, entry by entry, from the blocks it reads. -/
theorem used_at (x : Vec Ideal S256x2048 .f32) (wg wu : Vec Ideal S1x2048x1024 .bf16) (bg bu : Vec Ideal S1x1x1024 .f32) (wd : Vec Ideal S1x1024x2048 .bf16)
    (bd : Vec Ideal S1x1x2048 .f32) (r : Fin 256) (j : Fin 2048) :
    outUsed x wg wu bg bu wd bd (ix2 r j)
      = ExpertRow.through (fun k => x (ix2 r k)) (fun k f => wg (ix3 0 k f)) (fun k f => wu (ix3 0 k f)) (fun f => bg (ix3 0 0 f)) (fun f => bu (ix3 0 0 f))
          (fun f j => wd (ix3 0 f j)) (fun j => bd (ix3 0 0 j)) j := by
  unfold outUsed
  rw [View.canon_unit_zero Rows.zeros2]
  simp only [View.ld_unit_zero (S := S256x2048) Rows.zeros2, View.ld_unit_zero (S := S1x2048x1024) Rows.zeros3, View.ld_unit_zero (S := S1x1x1024) Rows.zeros3,
    View.ld_unit_zero (S := S1x1024x2048) Rows.zeros3, View.ld_unit_zero (S := S1x1x2048) Rows.zeros3]
  unfold k0_pay1 k0_pay3
  pointwise
  rfl

/-- What the body stores for an unused block: zeros. -/
theorem unused_at (r : Fin 256) (j : Fin 2048) : outUnused (F := Ideal) (ix2 r j) = 0 := by
  unfold outUnused
  rw [View.canon_unit_zero Rows.zeros2]
  unfold k0_pay2
  pointwise

/-- A block is in use when its number is less than the count. -/
theorem cond1_iff (i : grid0.Coords) (v : BitVec 32) : k0_cond1 i v = 1#1 ↔ (BitVec.ofNat 32 (i 0).val).slt v = true := by
  unfold k0_cond1
  simp only [Scalar.cmpi, Scalar.extui, IntOp.cmpi]
  cases (BitVec.ofNat 32 (i 0).val).slt v <;> decide

variable (m : (ℓ : Loc nD τ sig) → Buf (Elt Ideal) ℓ) (ρ : Dev nD → PrngReg)

/-! ## The arrays the host operations leave -/

/-- The gates' weights are the even columns. -/
theorem wg_at (c : Dev nD) (e : Fin 32) (k : Fin 2048) (f : Fin 1024) :
    V m c main_v1 (ix3 e k f) = m ((c : Thread nD τ).loc main_arg3) (ix3 e k (ExpertRow.even f)) := by
  have h : V m c main_v1 = truncf (F := Ideal) (φ := .f32) .bf16 (Host.slice S32x2048x1024 ![0, 0, 0] ![1, 1, 2] (m ((c : Thread nD τ).loc main_arg3))
      slicesBy_S32x2048x2048_S32x2048x1024_0s1_0s1_0s2) bitsLt_bf16_f32 := by
    show StableHlo.after hostOps0 _ _ = _
    unfold hostOps0
    after_results
  rw [h]
  refine congrArg (m ((c : Thread nD τ).loc main_arg3)) (funext fun a => Fin.ext ?_)
  match a with
  | ⟨0, _⟩ => show 0 + 1 * e.val = e.val; omega
  | ⟨1, _⟩ => show 0 + 1 * k.val = k.val; omega
  | ⟨2, _⟩ => show 0 + 2 * f.val = 2 * f.val; omega

/-- The other half's weights are the odd columns. -/
theorem wu_at (c : Dev nD) (e : Fin 32) (k : Fin 2048) (f : Fin 1024) :
    V m c main_v3 (ix3 e k f) = m ((c : Thread nD τ).loc main_arg3) (ix3 e k (ExpertRow.odd f)) := by
  have h : V m c main_v3 = truncf (F := Ideal) (φ := .f32) .bf16 (Host.slice S32x2048x1024 ![0, 0, 1] ![1, 1, 2] (m ((c : Thread nD τ).loc main_arg3))
      slicesBy_S32x2048x2048_S32x2048x1024_0s1_0s1_1s2) bitsLt_bf16_f32 := by
    show StableHlo.after hostOps0 _ _ = _
    unfold hostOps0
    after_results
  rw [h]
  refine congrArg (m ((c : Thread nD τ).loc main_arg3)) (funext fun a => Fin.ext ?_)
  match a with
  | ⟨0, _⟩ => show 0 + 1 * e.val = e.val; omega
  | ⟨1, _⟩ => show 0 + 1 * k.val = k.val; omega
  | ⟨2, _⟩ => show 1 + 2 * f.val = 2 * f.val + 1; omega

/-- The gates' biases are the even ones. -/
theorem bg_at (c : Dev nD) (e : Fin 32) (f : Fin 1024) :
    V m c main_v5 (ix3 e 0 f) = m ((c : Thread nD τ).loc main_arg4) (ix2 e (ExpertRow.even f)) := by
  have h : V m c main_v5 = broadcastInDim S32x1x1024 ![0, 2] bcast_S32x1024_S32x1x1024_0_2 (Host.slice S32x1024 ![0, 0] ![1, 2] (m ((c : Thread nD τ).loc main_arg4))
      slicesBy_S32x2048_S32x1024_0s1_0s2) := by
    show StableHlo.after hostOps0 _ _ = _
    unfold hostOps0
    after_results
  rw [h]
  refine congrArg (m ((c : Thread nD τ).loc main_arg4)) (funext fun a => Fin.ext ?_)
  match a with
  | ⟨0, _⟩ => show 0 + 1 * e.val = e.val; omega
  | ⟨1, _⟩ => show 0 + 2 * f.val = 2 * f.val; omega

/-- The other half's biases are the odd ones. -/
theorem bu_at (c : Dev nD) (e : Fin 32) (f : Fin 1024) :
    V m c main_v7 (ix3 e 0 f) = m ((c : Thread nD τ).loc main_arg4) (ix2 e (ExpertRow.odd f)) := by
  have h : V m c main_v7 = broadcastInDim S32x1x1024 ![0, 2] bcast_S32x1024_S32x1x1024_0_2 (Host.slice S32x1024 ![0, 1] ![1, 2] (m ((c : Thread nD τ).loc main_arg4))
      slicesBy_S32x2048_S32x1024_0s1_1s2) := by
    show StableHlo.after hostOps0 _ _ = _
    unfold hostOps0
    after_results
  rw [h]
  refine congrArg (m ((c : Thread nD τ).loc main_arg4)) (funext fun a => Fin.ext ?_)
  match a with
  | ⟨0, _⟩ => show 0 + 1 * e.val = e.val; omega
  | ⟨1, _⟩ => show 1 + 2 * f.val = 2 * f.val + 1; omega

/-- The second layer's weights. -/
theorem wd_at (c : Dev nD) (e : Fin 32) (f : Fin 1024) (j : Fin 2048) :
    V m c main_v8 (ix3 e f j) = m ((c : Thread nD τ).loc main_arg5) (ix3 e f j) := by
  have h : V m c main_v8 = truncf (F := Ideal) (φ := .f32) .bf16 (m ((c : Thread nD τ).loc main_arg5)) bitsLt_bf16_f32 := by
    show StableHlo.after hostOps0 _ _ = _
    unfold hostOps0
    after_results
  rw [h]
  rfl

/-- The second layer's biases. -/
theorem bd_at (c : Dev nD) (e : Fin 32) (j : Fin 2048) :
    V m c main_v9 (ix3 e 0 j) = m ((c : Thread nD τ).loc main_arg6) (ix2 e j) := by
  have h : V m c main_v9 = broadcastInDim S32x1x2048 ![0, 2] bcast_S32x2048_S32x1x2048_0_2 (m ((c : Thread nD τ).loc main_arg6)) := by
    show StableHlo.after hostOps0 _ _ = _
    unfold hostOps0
    after_results
  rw [h]
  pointwise

/-! ## The blocks that a point reads -/

variable (a : (pcfg0 (F := Ideal)).Adm)

/-- The grid has one axis, whose coordinate is the point, -/
theorem coord : ∀ t : Fin grid0.N, (grid0.coords t 0).val = t.val := by decide +kernel
/-- and 160 points. -/
theorem points : ∀ t : Fin grid0.N, t.val < 160 := by decide +kernel

/-- The number of point `t`'s block. -/
abbrev num (t : Fin (cfgA a).N) : Fin 160 := ⟨t.val, points t⟩

/-- A coordinate is kept when it is written as a word. -/
theorem word_of (t : Fin grid0.N) : (BitVec.ofNat 32 (grid0.coords t 0).val).toNat = t.val := by
  rw [BitVec.toNat_ofNat, coord t]
  have := points t
  omega

/-- The word of the table that an index map reads at point `t` is its word `t`. -/
theorem entry_at (pf : pre0.Contents (Elt Ideal)) (t : Fin grid0.N) :
    pf.at 0 (Rect.unit (s := S160) ![(Scalar.indexCast (BitVec.ofNat 32 (grid0.coords t 0).val)).toNat] S1.size (k0_off1_inb (grid0.coords t))) numel1_S1
      = pf 0 (ix1 (⟨t.val, points t⟩ : Fin 160)) := by
  refine congrArg (pf 0) (funext fun b => Fin.ext ?_)
  match b with
  | ⟨0, _⟩ =>
    have hz : ∀ i : S1.Idx, (i 0).val = 0 := fun i => Nat.lt_one_iff.mp (i 0).isLt
    show (Scalar.indexCast (BitVec.ofNat 32 (grid0.coords t 0).val)).toNat + 1 * ((Shape.Idx.first (numel1_S1.symm ▸ Nat.one_pos) : S1.Idx) 0).val = t.val
    rw [hz]
    exact word_of t

/-- Window 1 takes the block of the expert that the table names. -/
theorem idx1 (t : Fin (cfgA a).N) : (win0 a 1).index t 0 = BitVec.toNat (w := 32) (a.1 0 (ix1 (num a t))) :=
  congrArg (BitVec.toNat (w := 32)) (entry_at a.1 t)
/-- Window 2 takes the block of the expert that the table names. -/
theorem idx2 (t : Fin (cfgA a).N) : (win0 a 2).index t 0 = BitVec.toNat (w := 32) (a.1 0 (ix1 (num a t))) :=
  congrArg (BitVec.toNat (w := 32)) (entry_at a.1 t)
/-- Window 3 takes the block of the expert that the table names. -/
theorem idx3 (t : Fin (cfgA a).N) : (win0 a 3).index t 0 = BitVec.toNat (w := 32) (a.1 0 (ix1 (num a t))) :=
  congrArg (BitVec.toNat (w := 32)) (entry_at a.1 t)
/-- Window 4 takes the block of the expert that the table names. -/
theorem idx4 (t : Fin (cfgA a).N) : (win0 a 4).index t 0 = BitVec.toNat (w := 32) (a.1 0 (ix1 (num a t))) :=
  congrArg (BitVec.toNat (w := 32)) (entry_at a.1 t)
/-- Window 5 takes the block of the expert that the table names. -/
theorem idx5 (t : Fin (cfgA a).N) : (win0 a 5).index t 0 = BitVec.toNat (w := 32) (a.1 0 (ix1 (num a t))) :=
  congrArg (BitVec.toNat (w := 32)) (entry_at a.1 t)
/-- Window 6 takes the block of the expert that the table names. -/
theorem idx6 (t : Fin (cfgA a).N) : (win0 a 6).index t 0 = BitVec.toNat (w := 32) (a.1 0 (ix1 (num a t))) :=
  congrArg (BitVec.toNat (w := 32)) (entry_at a.1 t)

variable (e : Fin 32) (c : Dev nD) (t : Fin (cfgA a).N)

/-- The rows of point `t`. -/
theorem x_blk (r : Fin 256) (k : Fin 2048) (s : Fin 40960) (hs : s.val = t.val * 256 + r.val) :
    iblk m a c (0 : Fin 8) t (ix2 r k) = m ((c : Thread nD τ).loc main_arg0) (ix2 s k) := by
  show V m c main_arg0 (((win0 a 0).blk t).view.emb (ix2 r k)) = _
  rw [V_main_arg0]
  refine congrArg _ (funext fun b => Fin.ext ?_)
  match b with
  | ⟨0, _⟩ => show (BitVec.ofNat 32 (grid0.coords t 0).val).toNat * 256 + 1 * r.val = s.val; rw [word_of t]; omega
  | ⟨1, _⟩ => show 0 * 2048 + 1 * k.val = k.val; omega

/-- The expert's gate weights. -/
theorem wg_blk (k : Fin 2048) (f : Fin 1024) (he : BitVec.toNat (w := 32) (a.1 0 (ix1 (num a t))) = e.val) :
    iblk m a c (1 : Fin 8) t (ix3 0 k f) = V m c main_v1 (ix3 e k f) := by
  show V m c main_v1 (((win0 a 1).blk t).view.emb (ix3 0 k f)) = _
  refine congrArg _ (funext fun b => Fin.ext ?_)
  match b with
  | ⟨0, _⟩ => show (win0 a 1).index t 0 * 1 + 1 * (0 : Fin 1).val = e.val; rw [idx1, he]; show e.val * 1 + 1 * 0 = e.val; omega
  | ⟨1, _⟩ => show 0 * 2048 + 1 * k.val = k.val; omega
  | ⟨2, _⟩ => show 0 * 1024 + 1 * f.val = f.val; omega

/-- The expert's weights of the other half. -/
theorem wu_blk (k : Fin 2048) (f : Fin 1024) (he : BitVec.toNat (w := 32) (a.1 0 (ix1 (num a t))) = e.val) :
    iblk m a c (2 : Fin 8) t (ix3 0 k f) = V m c main_v3 (ix3 e k f) := by
  show V m c main_v3 (((win0 a 2).blk t).view.emb (ix3 0 k f)) = _
  refine congrArg _ (funext fun b => Fin.ext ?_)
  match b with
  | ⟨0, _⟩ => show (win0 a 2).index t 0 * 1 + 1 * (0 : Fin 1).val = e.val; rw [idx2, he]; show e.val * 1 + 1 * 0 = e.val; omega
  | ⟨1, _⟩ => show 0 * 2048 + 1 * k.val = k.val; omega
  | ⟨2, _⟩ => show 0 * 1024 + 1 * f.val = f.val; omega

/-- The expert's gate biases. -/
theorem bg_blk (f : Fin 1024) (he : BitVec.toNat (w := 32) (a.1 0 (ix1 (num a t))) = e.val) :
    iblk m a c (3 : Fin 8) t (ix3 0 0 f) = V m c main_v5 (ix3 e 0 f) := by
  show V m c main_v5 (((win0 a 3).blk t).view.emb (ix3 0 0 f)) = _
  refine congrArg _ (funext fun b => Fin.ext ?_)
  match b with
  | ⟨0, _⟩ => show (win0 a 3).index t 0 * 1 + 1 * (0 : Fin 1).val = e.val; rw [idx3, he]; show e.val * 1 + 1 * 0 = e.val; omega
  | ⟨1, _⟩ => show 0 * 1 + 1 * (0 : Fin 1).val = (0 : Fin 1).val; omega
  | ⟨2, _⟩ => show 0 * 1024 + 1 * f.val = f.val; omega

/-- The expert's biases of the other half. -/
theorem bu_blk (f : Fin 1024) (he : BitVec.toNat (w := 32) (a.1 0 (ix1 (num a t))) = e.val) :
    iblk m a c (4 : Fin 8) t (ix3 0 0 f) = V m c main_v7 (ix3 e 0 f) := by
  show V m c main_v7 (((win0 a 4).blk t).view.emb (ix3 0 0 f)) = _
  refine congrArg _ (funext fun b => Fin.ext ?_)
  match b with
  | ⟨0, _⟩ => show (win0 a 4).index t 0 * 1 + 1 * (0 : Fin 1).val = e.val; rw [idx4, he]; show e.val * 1 + 1 * 0 = e.val; omega
  | ⟨1, _⟩ => show 0 * 1 + 1 * (0 : Fin 1).val = (0 : Fin 1).val; omega
  | ⟨2, _⟩ => show 0 * 1024 + 1 * f.val = f.val; omega

/-- The expert's weights of the second layer. -/
theorem wd_blk (f : Fin 1024) (j : Fin 2048) (he : BitVec.toNat (w := 32) (a.1 0 (ix1 (num a t))) = e.val) :
    iblk m a c (5 : Fin 8) t (ix3 0 f j) = V m c main_v8 (ix3 e f j) := by
  show V m c main_v8 (((win0 a 5).blk t).view.emb (ix3 0 f j)) = _
  refine congrArg _ (funext fun b => Fin.ext ?_)
  match b with
  | ⟨0, _⟩ => show (win0 a 5).index t 0 * 1 + 1 * (0 : Fin 1).val = e.val; rw [idx5, he]; show e.val * 1 + 1 * 0 = e.val; omega
  | ⟨1, _⟩ => show 0 * 1024 + 1 * f.val = f.val; omega
  | ⟨2, _⟩ => show 0 * 2048 + 1 * j.val = j.val; omega

/-- The expert's biases of the second layer. -/
theorem bd_blk (j : Fin 2048) (he : BitVec.toNat (w := 32) (a.1 0 (ix1 (num a t))) = e.val) :
    iblk m a c (6 : Fin 8) t (ix3 0 0 j) = V m c main_v9 (ix3 e 0 j) := by
  show V m c main_v9 (((win0 a 6).blk t).view.emb (ix3 0 0 j)) = _
  refine congrArg _ (funext fun b => Fin.ext ?_)
  match b with
  | ⟨0, _⟩ => show (win0 a 6).index t 0 * 1 + 1 * (0 : Fin 1).val = e.val; rw [idx6, he]; show e.val * 1 + 1 * 0 = e.val; omega
  | ⟨1, _⟩ => show 0 * 1 + 1 * (0 : Fin 1).val = (0 : Fin 1).val; omega
  | ⟨2, _⟩ => show 0 * 2048 + 1 * j.val = j.val; omega

/-! ## The result array -/

/-- The reference's result at the kernel's arguments. -/
abbrev want (c : Dev nD) : Buf (Elt Ideal) ((c : Thread nD τ).loc main_v10) :=
  Cert.ExpertsRefIdeal.Read.val_main_v60 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The output's block `t` is row block `t`. -/
theorem out_emb (r : Fin 256) (j : Fin 2048) (s : Fin 40960) (hs : s.val = t.val * 256 + r.val) :
    ((win0 a 7).blk t).view.emb (ix2 r j) = ix2 s j := by
  refine funext fun b => Fin.ext ?_
  match b with
  | ⟨0, _⟩ => show (BitVec.ofNat 32 (grid0.coords t 0).val).toNat * 256 + 1 * r.val = s.val; rw [word_of t]; omega
  | ⟨1, _⟩ => show 0 * 2048 + 1 * j.val = j.val; omega

/-- What the output's buffer holds after point `t`, entry by entry. -/
theorem out_at (h1 : a.1 1 = m ((c : Thread nD τ).loc main_arg2)) (he : BitVec.toNat (w := 32) (a.1 0 (ix1 (num a t))) = e.val) (r : Fin 256) (j : Fin 2048)
    (s : Fin 40960) (hs : s.val = t.val * 256 + r.val) :
    outAt m a c t (ix2 r j)
      = bif BitVec.slt (BitVec.ofNat 32 t.val) (m ((c : Thread nD τ).loc main_arg2) (ix1 0)) then
          ExpertRow.expert (fun k => m ((c : Thread nD τ).loc main_arg0) (ix2 s k)) (fun e k f => m ((c : Thread nD τ).loc main_arg3) (ix3 e k f))
            (fun e f => m ((c : Thread nD τ).loc main_arg4) (ix2 e f)) (fun e f j => m ((c : Thread nD τ).loc main_arg5) (ix3 e f j))
            (fun e j => m ((c : Thread nD τ).loc main_arg6) (ix2 e j)) e j
        else 0 := by
  have hw : word (F := Ideal) (a.1 1) = m ((c : Thread nD τ).loc main_arg2) (ix1 0) := by
    rw [h1]
    show m ((c : Thread nD τ).loc main_arg2) _ = _
    refine congrArg _ (funext fun b => Fin.ext ?_)
    match b with
    | ⟨0, _⟩ => exact (Nat.lt_one_iff.mp (Fin.isLt _)).trans rfl
  have hn : (((cfgA a).grid.coords t) 0).val = t.val := coord t
  unfold outAt
  rw [hw]
  by_cases hu : BitVec.slt (BitVec.ofNat 32 t.val) (m ((c : Thread nD τ).loc main_arg2) (ix1 0)) = true
  · rw [if_pos ((cond1_iff _ _).mpr (by rw [hn]; exact hu)), hu, used_at]
    unfold ExpertRow.expert
    have hx : (fun k : Fin 2048 => iblk m a c (0 : Fin 8) t (ix2 r k)) = _ := funext fun k => x_blk m a c t r k s hs
    have hg : (fun (k : Fin 2048) (f : Fin 1024) => iblk m a c (1 : Fin 8) t (ix3 0 k f)) = _ := funext fun k => funext fun f =>
      (wg_blk m a e c t k f he).trans (wg_at m c e k f)
    have hv : (fun (k : Fin 2048) (f : Fin 1024) => iblk m a c (2 : Fin 8) t (ix3 0 k f)) = _ := funext fun k => funext fun f =>
      (wu_blk m a e c t k f he).trans (wu_at m c e k f)
    have hbg : (fun (f : Fin 1024) => iblk m a c (3 : Fin 8) t (ix3 0 0 f)) = _ := funext fun f =>
      (bg_blk m a e c t f he).trans (bg_at m c e f)
    have hbu : (fun (f : Fin 1024) => iblk m a c (4 : Fin 8) t (ix3 0 0 f)) = _ := funext fun f =>
      (bu_blk m a e c t f he).trans (bu_at m c e f)
    have hd : (fun (f : Fin 1024) (j : Fin 2048) => iblk m a c (5 : Fin 8) t (ix3 0 f j)) = _ := funext fun f => funext fun j =>
      (wd_blk m a e c t f j he).trans (wd_at m c e f j)
    have hbd : (fun (j : Fin 2048) => iblk m a c (6 : Fin 8) t (ix3 0 0 j)) = _ := funext fun j =>
      (bd_blk m a e c t j he).trans (bd_at m c e j)
    rw [hx, hg, hv, hbg, hbu, hd, hbd]
    rfl
  · rw [if_neg (fun h => hu (by rw [← hn]; exact (cond1_iff _ _).mp h)), Bool.eq_false_iff.mpr hu, unused_at]
    rfl

/-- Every point writes its block back. -/
theorem flush_out : ∀ t : Fin (cfgA a).N, ((cfgA a).win 7).flush t = true :=
  (fun t => (Pipeline.Window.flush_reads (win0 a 7) rfl 0 (by decide) (by show grid0.fixedAfter reads0_7 0 = true; decide) (Pipeline.Window.sep_of_coord cc0_transform_7 0 0 (fun _ => rfl) (by decide)) (P := 1) (m := 0) (by decide) rfl t).mpr (Nat.mod_one _) :
    ∀ t : Fin grid0.N, (win0 a 7).flush t = true)

/-- What point `t` writes back is block `t` of the reference's result. -/
theorem flushed_eq (h1 : a.1 1 = m ((c : Thread nD τ).loc main_arg2)) (h0 : a.1 0 = m ((c : Thread nD τ).loc main_arg1))
    (hr : ∀ j : S160.Idx, 0 ≤ BitVec.toInt (n := 32) (m ((c : Thread nD τ).loc main_arg1) j) ∧ BitVec.toInt (n := 32) (m ((c : Thread nD τ).loc main_arg1) j) < 32) :
    (dats m a 0 c).flushed (7 : Fin 8) t = ((win0 a 7).blk t).view.read (Elt Ideal) (want m c) := by
  have ht := points t
  have hlt := toNat_lt _ (hr (ix1 (num a t)))
  have hi : BitVec.toInt (n := 32) (m ((c : Thread nD τ).loc main_arg1) (ix1 (num a t))) = BitVec.toNat (w := 32) (m ((c : Thread nD τ).loc main_arg1) (ix1 (num a t))) := by
    rw [BitVec.toInt_eq_toNat_of_lt (by omega)]
  show ((cfgA a).win 7).cut ((cfgA a).grid.coords t) ((dats m a 0 c).after (7 : Fin 8) t) = _
  rw [after_7]
  funext y
  obtain ⟨r, j, rfl⟩ : ∃ (r : Fin 256) (j : Fin 2048), y = ix2 r j := by
    have hy : ∀ z : S256x2048.Idx, ∃ (r : Fin 256) (j : Fin 2048), z = ix2 r j := fun z => ⟨z 0, z 1, eq_ix2 z⟩
    exact hy y
  have hr' := r.isLt
  show outAt m a c t (ix2 r j) = want m c (((win0 a 7).blk t).view.emb (ix2 r j))
  rw [out_emb a t r j ⟨t.val * 256 + r.val, by omega⟩ rfl,
    out_at m a ⟨_, hlt⟩ c t h1 (by rw [h0]) r j ⟨t.val * 256 + r.val, by omega⟩ rfl]
  exact (Cert.ExpertsRefIdeal.Entry.result _ _ _ _ _ _ _ (num a t) r j ⟨_, hlt⟩ hi ⟨t.val * 256 + r.val, by omega⟩ rfl).symm

/-- The result array's blocks tile it. -/
theorem cover (i : S40960x2048.Idx) : ∃ t : Fin (cfgA a).N, ((cfgA a).win 7).flush t = true ∧ i ∈ (((cfgA a).win 7).blk t).view.set := by
  have h0 : (i 0 : Nat) < 40960 := (i 0).isLt
  have h1 : (i 1 : Nat) < 2048 := (i 1).isLt
  have hN : grid0.N = 160 := by decide
  refine ⟨(⟨(i 0 : Nat) / 256, by omega⟩ : Fin grid0.N), flush_out a _, ?_⟩
  generalize ht : (⟨(i 0 : Nat) / 256, by omega⟩ : Fin grid0.N) = t
  have hv : t.val = (i 0 : Nat) / 256 := by rw [← ht]
  show i ∈ ((View.whole main_v10).slice ((win0 a 7).rect t)).set
  rw [View.set_slice_whole, Rect.mem_set_unit]
  intro b
  match b with
  | ⟨0, _⟩ => show (BitVec.ofNat 32 (grid0.coords t 0).val).toNat * 256 ≤ (i 0 : Nat) ∧ (i 0 : Nat) < (BitVec.ofNat 32 (grid0.coords t 0).val).toNat * 256 + 256
              rw [word_of t]; omega
  | ⟨1, _⟩ => show 0 * 2048 ≤ (i 1 : Nat) ∧ (i 1 : Nat) < 0 * 2048 + 2048; omega

/-- So the result array ends holding the reference's result. -/
theorem final (h1 : a.1 1 = m ((c : Thread nD τ).loc main_arg2)) (h0 : a.1 0 = m ((c : Thread nD τ).loc main_arg1))
    (hr : ∀ j : S160.Idx, 0 ≤ BitVec.toInt (n := 32) (m ((c : Thread nD τ).loc main_arg1) j) ∧ BitVec.toInt (n := 32) (m ((c : Thread nD τ).loc main_arg1) j) < 32) :
    (dats m a 0 c).arrAt (7 : Fin 8) (cfgA a).N = want m c :=
  (dats m a 0 c).arrAt_eq_of_cover (7 : Fin 8) (want m c) (fun t _ => flushed_eq m a c t h1 h0 hr) (cover a)

end Cert.ExpertsIdeal.Entry

namespace Cert.Proof.Experts

/-- The kernel leaves its arguments as they were, when the expert numbers are in range. -/
theorem frame_p : Cert.quiescent_Experts := fun m ρ h =>
  ExpertsRun.frame_at (F := Bits) m ρ
    ⟨Cert.ExpertsIdeal.Tables.tables (F := Bits) m, Cert.ExpertsIdeal.Tables.ok_of (F := Bits) _
      fun j => Cert.ExpertsIdeal.Tables.toNat_lt _ (Cert.Pre_experts_in_range.Entry.signed _ _ _ _ _ _ _ (h 0) j)⟩
    (fun c k => by
      obtain rfl : c = 0 := Subsingleton.elim _ _
      match k with
      | ⟨0, _⟩ => exact ExpertsRun.V_main_arg1 m 0
      | ⟨1, _⟩ => exact ExpertsRun.V_main_arg2 m 0)

/-- So does the reference, whose run is read at its arguments; it declares no semaphore. -/
theorem frame_ri : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)
/-- The idealization rewrites nothing but the number type. -/
theorem preserves : Cert.preserves_Experts_ExpertsIdeal := trivial

/-- The idealization leaves its arguments as they were, when the expert numbers are in range. -/
theorem frame_pi : Cert.quiescent_ExpertsIdeal := ExpertsTables.frame_pi

/-- From arguments that agree, with the expert numbers in range, the kernel and the reference leave the same array. -/
theorem algebraic : Cert.algebraic_ExpertsIdeal_ExpertsRefIdeal := by
  intro m ρ m' ρ' hpre hagree
  have hr := Cert.Pre_experts_in_range.Entry.signed _ _ _ _ _ _ _ (hpre 0)
  have ha := Cert.ExpertsIdeal.Tables.found m
  let a := Cert.ExpertsIdeal.Tables.adm m fun j => Cert.ExpertsIdeal.Tables.toNat_lt _ (hr j)
  refine ⟨fun c => Cert.ExpertsIdeal.Entry.want m c, ?_, ?_⟩
  · refine (θ_run Cert.ExpertsIdeal.defs _ _).mono (fun r h c => ⟨(h.1 c).1.trans ?_, (h.1 c).2⟩) (ExpertsIdealRun.run_all m ρ a ha)
    obtain rfl : c = 0 := Subsingleton.elim _ _
    exact Cert.ExpertsIdeal.Entry.final m a 0 rfl rfl hr
  · refine (θ_run Cert.ExpertsRefIdeal.defs _ _).mono (fun _ h c => ⟨(h c).1.trans ?_, (h c).2⟩)
      (Cert.ExpertsRefIdeal.Value.run (F := Ideal) m' ρ')
    rw [Cert.ExpertsRefIdeal.Read.val_main_v60_eq, (hagree c).1, (hagree c).2.1, (hagree c).2.2.1, (hagree c).2.2.2.1, (hagree c).2.2.2.2.1, (hagree c).2.2.2.2.2.1, (hagree c).2.2.2.2.2.2]

end Cert.Proof.Experts

end
-- ==== Proof.CombineIdealRun.lean ====
/-
  The combination run on whole buffers: at a grid point the body starts 1024 copies, one for each pick of each of the
  block's 256 tokens, from the experts' rows into its scratch buffer, waits for them all, weighs the four rows of every
  token by its gates, adds the scaled residual and normalises.
-/
module

public import proofs.«01_k».proof.Proof.Gen.CombineIdeal.Launch
public import proofs.«01_k».proof.Proof.Gen.CombineIdeal.Skeleton
public import proofs.«01_k».proof.Proof.Gen.CombineIdeal.Points
public import proofs.«01_k».proof.Proof.Rows
public import Idealize.ShloMosaic.Lib.Pipeline.Frame
public import Idealize.ShloMosaic.Lib.Pipeline.FrameBody
public import Idealize.ShloMosaic.Lib.Batch
public import Idealize.ShloMosaic.Lib.Claim
public import Idealize.ShloMosaic.Lib.Ring
public import Idealize.ShloMosaic.Lib.Tactic
public import Idealize.ShloMosaic.Lib.WordArith.Masks
public import Idealize.ShloMosaic.Lib.Pointwise
public import Idealize.ShloMosaic.Lib.ValueLayout

@[expose] public section

set_option maxRecDepth 16384

noncomputable section

namespace Cert.Proof.CombineIdealRun

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The copies of a grid point -/

/-- The experts' rows, left where they are, and the scratch buffer. -/
abbrev ys : Memref sig .tc .hbm S40960x2048 .f32 := Memref.whole main_arg0
abbrev sc : Memref sig .tc .vmem S4x256x2048 .f32 := Memref.whole cc0_scratch0

/-- Every trip of the copying loop is one of the block's 256 tokens. -/
theorem trips_eq : k0_t1_loop.trips = 256 := by decide
theorem trips_eq' : k0_t2_loop.trips = 256 := by decide

/-- The token a trip is about, as the kernel counts it. -/
theorem token_eq (t : Fin k0_t1_loop.trips) : (Scf.iv 0#32 1#32 t).toNat = t.val :=
  WordArith.toNat_iv_zero_one _ (by have := lt_of_lt_of_eq t.isLt trips_eq; omega)

/-- The row that pick `k` of the block's token `t` is found in. -/
def pick (x : Vec F S4x256 .i32) (k : Fin 4) (t : Fin 256) : Fin 40960 :=
  ⟨(show BitVec 32 from x (ix2 k t)).toNat % 40960, Nat.mod_lt _ (by decide)⟩

/-- The picks are numbered by token: number `j` is pick `j % 4` of token `j / 4`. -/
abbrev kOf (j : Fin 1024) : Fin 4 := ⟨j.val % 4, Nat.mod_lt _ (by decide)⟩
abbrev tOf (j : Fin 1024) : Fin 256 := ⟨j.val / 4, by omega⟩

theorem row_inb (k : Fin 4) (t : Fin 256) : ∀ a, (![k.val, t.val, 0] : Fin 3 → Nat) a + S1x1x2048.size a ≤ S4x256x2048.size a := by
  intro a; fin_cases a
  · show k.val + 1 ≤ 4; omega
  · show t.val + 1 ≤ 256; omega
  · show 0 + 2048 ≤ 2048; omega

theorem src_inb (r : Fin 40960) : ∀ a, (![r.val, 0] : Fin 2 → Nat) a + S1x2048.size a ≤ S40960x2048.size a := by
  intro a; fin_cases a
  · show r.val + 1 ≤ 40960; omega
  · show 0 + 2048 ≤ 2048; omega

/-- Where the scratch buffer keeps pick `k` of token `t`, and where the experts' rows keep row `r`. -/
abbrev rowI (k : Fin 4) (t : Fin 256) : Finset S4x256x2048.Idx := (Rect.unit (s := S4x256x2048) ![k.val, t.val, 0] S1x1x2048.size (row_inb k t)).set
abbrev srcI (r : Fin 40960) : Finset S40960x2048.Idx := (Rect.unit (s := S40960x2048) ![r.val, 0] S1x2048.size (src_inb r)).set

theorem mem_rowI (k : Fin 4) (t : Fin 256) (i : S4x256x2048.Idx) : i ∈ rowI k t ↔ (i 0).val = k.val ∧ (i 1).val = t.val := by
  rw [Rect.mem_set_unit]
  have h2 : (i 2).val < 2048 := (i 2).isLt
  constructor
  · intro H
    have a0 : k.val ≤ (i 0).val ∧ (i 0).val < k.val + 1 := H 0
    have a1 : t.val ≤ (i 1).val ∧ (i 1).val < t.val + 1 := H 1
    omega
  · rintro ⟨H0, H1⟩ a; fin_cases a
    · show k.val ≤ (i 0).val ∧ (i 0).val < k.val + 1; omega
    · show t.val ≤ (i 1).val ∧ (i 1).val < t.val + 1; omega
    · show 0 ≤ (i 2).val ∧ (i 2).val < 0 + 2048; omega

/-- The scratch buffer once every copy has arrived: the picked rows. -/
def picked (x : Vec F S4x256 .i32) (y : Vec F S40960x2048 .f32) : Vec F S4x256x2048 .f32 :=
  fun i => y (ix2 (pick x (i 0) (i 1)) (i 2))

variable (c : Dev nD)

/-- A row of the scratch buffer at contents `f`; a row of the experts' rows, on the share lent to copy `j`. -/
abbrev rowPt (f : Vec F S4x256x2048 .f32) (j : Fin 1024) : sProp 𝕄 := sc.view.loc (c : Thread nD τ) ↦[rowI (kOf j) (tOf j)]{fullShare} f
abbrev srcPt (x : Vec F S4x256 .i32) (y : Vec F S40960x2048 .f32) (j : Fin 1024) : sProp 𝕄 :=
  ys.view.loc (c : Thread nD τ) ↦[srcI (pick x (kOf j) (tOf j))]{Transfers.shareTokN fullShare j.val} y

/-- What copy `j` brings: its row of the scratch buffer holding the picked row, and the row it was lent. -/
abbrev brought (x : Vec F S4x256 .i32) (y : Vec F S40960x2048 .f32) (j : Fin 1024) : sProp 𝕄 :=
  iprop(rowPt c (picked x y) j ∗ srcPt c x y j)

/-- The copies, `j` of them started and `u` units of them waited for: each counts one row. -/
abbrev copies (x : Vec F S4x256 .i32) (y : Vec F S40960x2048 .f32) (N : ℕ) (j u : ℕ) : sProp 𝕄 :=
  Transfers.Batch (countersEmb (U := Pipeline.UD sig nD τ)) (c : Thread nD τ) (.dma 10) () N (brought c x y) j u

/-- The ends of a copy, as the kernel names them: a row of the scratch buffer, a row of the experts' rows. -/
abbrev dstRow (o : Fin 3 → Nat) (h : ∀ a, o a + S1x1x2048.size a ≤ S4x256x2048.size a) : Memref sig .tc .vmem S1x2048 .f32 :=
  (sc.slice (Rect.unit (s := S4x256x2048) o S1x1x2048.size h) (fun _ => rfl)).squeeze S1x2048 squeezes_S1x1x2048_S1x2048
abbrev srcRow (o : Fin 2 → Nat) (h : ∀ a, o a + S1x2048.size a ≤ S40960x2048.size a) : Memref sig .tc .hbm S1x2048 .f32 :=
  ys.slice (Rect.unit (s := S40960x2048) o S1x2048.size h) (fun _ => rfl)

theorem dst_set (o : Fin 3 → Nat) (h) (k : Fin 4) (t : Fin 256) (ho : o = ![k.val, t.val, 0]) : (dstRow o h).view.set = rowI k t := by
  subst ho; exact (View.set_reshape _ _).trans (View.set_slice_whole _ _)
theorem src_set (o : Fin 2 → Nat) (h) (r : Fin 40960) (ho : o = ![r.val, 0]) : (srcRow o h).view.set = srcI r := by
  subst ho; exact View.set_slice_whole _ _

/-- One row counts 256 units. -/
theorem dst_amount (o : Fin 3 → Nat) (h) : (dstRow o h).view.amount (.dma 10) = 256 :=
  View.dmaCredit_closed _ S1x2048 rfl cc0_scratch0.idx rfl _ (by decide)

/-- What a copy writes is the picked row. -/
theorem writes_picked (o : Fin 3 → Nat) (h) (o' : Fin 2 → Nat) (h') (x : Vec F S4x256 .i32) (y : Vec F S40960x2048 .f32) (f : Vec F S4x256x2048 .f32)
    (k : Fin 4) (t : Fin 256) (ho : o = ![k.val, t.val, 0]) (ho' : o' = ![(pick x k t).val, 0]) :
    ∀ i ∈ rowI k t, (dstRow o h).view.write (Elt F) f (ReadAs.same.apply ((srcRow o' h').view.read (Elt F) y)) Finset.univ i = picked x y i := by
  intro i hi
  rw [← dst_set o h k t ho] at hi
  subst ho ho'
  obtain ⟨z, -, rfl⟩ := Finset.mem_map.mp hi
  rw [View.write_emb_of_mem _ _ (Finset.mem_univ z)]
  obtain ⟨a, b, rfl⟩ : ∃ (a : Fin 1) (b : Fin 2048), z = ix2 a b := ⟨z 0, z 1, (eq_ix2 z)⟩
  have e1 : (dstRow ![k.val, t.val, 0] h).view.emb (ix2 a b) = ix3 k t b := by
    show (Rect.unit (s := S4x256x2048) ![k.val, t.val, 0] S1x1x2048.size h).emb (Shape.reshapeEquiv _ (ix2 a b)) = _
    have e0 : (Shape.reshapeEquiv squeezes_S1x1x2048_S1x2048.numel_eq (ix2 a b) : S1x1x2048.Idx) = ix3 (⟨0, Nat.one_pos⟩ : Fin 1) a b :=
      ValueIdx.reshapeEquiv_ix2_1ab _ a b
    refine (congrArg _ e0).trans ?_
    funext d; apply Fin.ext; have ha : a.val = 0 := by omega
    fin_cases d
    · show k.val + 1 * 0 = k.val; omega
    · show t.val + 1 * a.val = t.val; omega
    · show 0 + 1 * b.val = b.val; omega
  have e2 : (srcRow ![(pick x k t).val, 0] h').view.emb (ix2 a b) = ix2 (pick x k t) b := by
    funext d; apply Fin.ext; have ha : a.val = 0 := by omega
    fin_cases d
    · show (pick x k t).val + 1 * a.val = (pick x k t).val; omega
    · show 0 + 1 * b.val = b.val; omega
  rw [e1]
  show (srcRow ![(pick x k t).val, 0] h').view.read (Elt F) y (ix2 a b) = picked x y (ix3 k t b)
  rw [View.read_apply, e2]
  rfl

/-! ## The copying loop -/

/-- A position that is a row of the experts' rows passes the kernel's own check. -/
theorem chk1_of {v : BitVec 32} (h : v.toNat < 40960) : k0_chk1 v := by
  unfold k0_chk1 k0_off3; intro a; fin_cases a
  · show v.toNat + 1 ≤ 40960; omega
  · show 0 + 2048 ≤ 2048; omega
theorem chk2_of {v : BitVec 32} (h : v.toNat < 40960) : k0_chk2 v := by
  unfold k0_chk2 k0_off6; intro a; fin_cases a
  · show v.toNat + 1 ≤ 40960; omega
  · show 0 + 2048 ≤ 2048; omega
theorem chk3_of {v : BitVec 32} (h : v.toNat < 40960) : k0_chk3 v := by
  unfold k0_chk3 k0_off9; intro a; fin_cases a
  · show v.toNat + 1 ≤ 40960; omega
  · show 0 + 2048 ≤ 2048; omega
theorem chk4_of {v : BitVec 32} (h : v.toNat < 40960) : k0_chk4 v := by
  unfold k0_chk4 k0_off12; intro a; fin_cases a
  · show v.toNat + 1 ≤ 40960; omega
  · show 0 + 2048 ≤ 2048; omega

/-- The block's positions, as the body addresses them, at contents `f1`. -/
abbrev posPt (arg1 : Memref sig .tc .smem S4x256 .i32) (f1 : Buf (Elt F) (arg1.view.loc (c : Thread nD τ))) : sProp 𝕄 :=
  arg1.view.loc (c : Thread nD τ) ↦[arg1.view.set]{fullShare} f1

/-- Starting copy `j`, whose ends the kernel names by the offsets `o` and `o'`. -/
theorem start_copy (x : Vec F S4x256 .i32) (y : Vec F S40960x2048 .f32) (f : Vec F S4x256x2048 .f32) (j : ℕ) (hj : j < 1024)
    (o : Fin 3 → Nat) (h) (o' : Fin 2 → Nat) (h') (ho : o = ![(kOf ⟨j, hj⟩).val, (tOf ⟨j, hj⟩).val, 0]) (ho' : o' = ![(pick x (kOf ⟨j, hj⟩) (tOf ⟨j, hj⟩)).val, 0])
    {hsrc : (srcRow o' h').view.WordExact} {hdst : (dstRow o h).view.WordExact} {hsem : DmaTarget.Typed (nD := nD) (p := Proc.tc) Space.hbm (SemLoc.dma cc0_scratch1.sem) (.here (dstRow o h))}
    {kk : PUnit → Prog (TpuEff nD τ sig (Elt F) Λ₀ .tc) PUnit} {Q : PUnit → sProp 𝕄} :
    iprop(srcPt c x y ⟨j, hj⟩ ∗ rowPt c f ⟨j, hj⟩ ∗ copies c x y 256 j 0)
      ⊢ iprop((copies c x y 256 (j + 1) 0 -∗ wp frame (wpE (defs₀ (F := F)) Variants.none c none) Set.univ (kk ⟨⟩) Q)
          -∗ wp frame (wpE (defs₀ (F := F)) Variants.none c none) Set.univ
              (.op (.enqueueDmaAs (srcRow o' h') (.here (dstRow o h)) .same (.dma cc0_scratch1.sem) hsrc hdst hsem) kk) Q) := by
  have hD : iprop(((dstRow o h).view.loc (c : Thread nD τ) ↦[rowI (kOf ⟨j, hj⟩) (tOf ⟨j, hj⟩)]{fullShare}
        ((dstRow o h).view.write (Elt F) f (ReadAs.same.apply ((srcRow o' h').view.read (Elt F) y)) Finset.univ))
      ∗ ((srcRow o' h').view.loc (c : Thread nD τ) ↦[(srcRow o' h').view.set]{Transfers.shareTokN fullShare j} y)) ⊢ brought c x y ⟨j, hj⟩ := by
    rw [src_set o' h' _ ho', pointsTo_congr (writes_picked o h o' h' x y f _ _ ho ho')]
  have := Transfers.wp_dmaBatch (countersEmb (U := Pipeline.UD sig nD τ)) (defs := defs₀ (F := F)) Variants.none (c : Thread nD τ) none (Q := Q) (k := kk)
    (src := srcRow o' h') (via := .same) (dst := dstRow o h) (sm := .dma 10) (hsrc := hsrc) (hdst := hdst) (hsem := hsem) (fs := y) (fd := f)
    (D := brought c x y) (j := j) (u := 0) () 256 (dst_amount o h) (dst_set o h _ _ ho).le hj (Nat.zero_le _) hD
  rw [src_set o' h' _ ho'] at this
  exact this

/-- The position the body reads for pick `p` of the trip's token, and the offsets it computes from it. -/
theorem read_pos (arg1 : Memref sig .tc .smem S4x256 .i32) (f1 : Buf (Elt F) (arg1.view.loc (c : Thread nD τ))) (o : Fin 2 → Nat) (h) (p : Fin 4) (t : Fin 256)
    (ho : o = ![p.val, t.val]) :
    arg1.view.readAt (Elt F) (Rect.unit (s := S4x256) o S1x1.size h).toLoadRect f1 (Shape.Idx.first (numel1_S1x1.symm ▸ Nat.one_pos))
      = arg1.view.read (Elt F) f1 (ix2 p t) := by
  subst ho
  rw [View.readAt_apply]
  congr 1
  funext d; apply Fin.ext
  fin_cases d
  · show p.val + 1 * 0 = p.val; omega
  · show t.val + 1 * 0 = t.val; omega

theorem src_off (x : Vec F S4x256 .i32) (hx : ∀ z, (show BitVec 32 from x z).toNat < 40960) (p : Fin 4) (t : Fin 256) (v : BitVec 32) (hv : v = x (ix2 p t)) :
    (![v.toNat, 0] : Fin 2 → Nat) = ![(pick x p t).val, 0] := by
  subst hv; rw [show (pick x p t).val = (show BitVec 32 from x (ix2 p t)).toNat from Nat.mod_eq_of_lt (hx _)]

theorem dst_off (p q : ℕ) (t : Fin k0_t1_loop.trips) (hq : q < 4) (hpq : p = q) (j : ℕ) (hj : j < 1024) (e : j = 4 * t.val + q) :
    (![p, (Scf.iv 0#32 1#32 t).toNat, 0] : Fin 3 → Nat) = ![(kOf ⟨j, hj⟩).val, (tOf ⟨j, hj⟩).val, 0] := by
  rw [token_eq]; subst hpq e
  have a : (4 * t.val + p) % 4 = p := by omega
  have b : (4 * t.val + p) / 4 = t.val := by omega
  show _ = ![(4 * t.val + p) % 4, (4 * t.val + p) / 4, 0]
  rw [a, b]

theorem off_pos (p : ℕ) (t : Fin k0_t1_loop.trips) : (![p, (Scf.iv 0#32 1#32 t).toNat] : Fin 2 → Nat) = ![p, t.val] := by rw [token_eq]

theorem pos_num (x : Vec F S4x256 .i32) (p : Fin 4) (t : ℕ) (ht : t < 256) (j : ℕ) (hj : j < 1024) (e : j = 4 * t + p.val) :
    x (ix2 p ⟨t, ht⟩) = x (ix2 (kOf ⟨j, hj⟩) (tOf ⟨j, hj⟩)) := by
  subst e
  have a : p = kOf ⟨4 * t + p.val, hj⟩ := Fin.ext (by show p.val = (4 * t + p.val) % 4; omega)
  have b : (⟨t, ht⟩ : Fin 256) = tOf ⟨4 * t + p.val, hj⟩ := Fin.ext (by show t = (4 * t + p.val) / 4; omega)
  rw [← a, ← b]

/-- Before trip `k`: the copies of the first `k` tokens started, the later rows still in hand. -/
def copyAt (arg1 : Memref sig .tc .smem S4x256 .i32) (f1 : Buf (Elt F) (arg1.view.loc (c : Thread nD τ)))
    (y : Vec F S40960x2048 .f32) (f : Vec F S4x256x2048 .f32) (k : ℕ) (_ : Unit) : sProp 𝕄 :=
  iprop(copies c (arg1.view.read (Elt F) f1) y 256 (4 * k) 0 ∗ posPt c arg1 f1
    ∗ bigSep (Ring.rangeSet 1024 (4 * k) 1024) (rowPt c f) ∗ bigSep (Ring.rangeSet 1024 (4 * k) 1024) (srcPt c (arg1.view.read (Elt F) f1) y))

set_option maxHeartbeats 4000000 in
theorem copy_step (i : grid0.Coords) (arg1 : Memref sig .tc .smem S4x256 .i32) (harg1 : arg1.IsWhole) (arg3 : Memref sig .tc .vmem S256x4 .f32) (harg3 : arg3.IsWhole)
    (arg4 : Memref sig .tc .vmem S256x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S256x2048 .f32) (harg7 : arg7.IsWhole)
    (f1 : Buf (Elt F) (arg1.view.loc (c : Thread nD τ))) (y : Vec F S40960x2048 .f32) (f : Vec F S4x256x2048 .f32)
    (hx : ∀ z, (show BitVec 32 from arg1.view.read (Elt F) f1 z).toNat < 40960)
    (k : Fin k0_t1_loop.trips) (acc : Unit) :
    copyAt c arg1 f1 y f k acc ⊢ wp frame (wpE (defs₀ (F := F)) Variants.none c none) Set.univ
      (k0_t1_body i arg1 harg1 ys (Memref.isWhole_whole _) arg3 harg3 arg4 harg4 arg5 harg5 arg6 harg6 arg7 harg7 sc (Memref.isWhole_whole _) cc0_scratch1 k acc)
      (copyAt c arg1 f1 y f (k.val + 1)) := by
  have hk : k.val < 256 := lt_of_lt_of_eq k.isLt trips_eq
  unfold copyAt
  rw [Ring.bigSep_rangeSet_head (Φ := rowPt c f) (lo := 4 * k.val) (by omega) (by omega),
    Ring.bigSep_rangeSet_head (Φ := rowPt c f) (lo := 4 * k.val + 1) (by omega) (by omega),
    Ring.bigSep_rangeSet_head (Φ := rowPt c f) (lo := 4 * k.val + 1 + 1) (by omega) (by omega),
    Ring.bigSep_rangeSet_head (Φ := rowPt c f) (lo := 4 * k.val + 1 + 1 + 1) (by omega) (by omega),
    Ring.bigSep_rangeSet_head (Φ := srcPt c (arg1.view.read (Elt F) f1) y) (lo := 4 * k.val) (by omega) (by omega),
    Ring.bigSep_rangeSet_head (Φ := srcPt c (arg1.view.read (Elt F) f1) y) (lo := 4 * k.val + 1) (by omega) (by omega),
    Ring.bigSep_rangeSet_head (Φ := srcPt c (arg1.view.read (Elt F) f1) y) (lo := 4 * k.val + 1 + 1) (by omega) (by omega),
    Ring.bigSep_rangeSet_head (Φ := srcPt c (arg1.view.read (Elt F) f1) y) (lo := 4 * k.val + 1 + 1 + 1) (by omega) (by omega),
    show 4 * (k.val + 1) = 4 * k.val + 1 + 1 + 1 + 1 by omega]
  iintro ⟨HB, HP, ⟨HR0, HR1, HR2, HR3, HRs⟩, ⟨HS0, HS1, HS2, HS3, HSs⟩⟩
  unfold k0_t1_body
  sl_exec (disch := first | exact chk1_of (hx _) | exact chk2_of (hx _) | exact chk3_of (hx _) | exact chk4_of (hx _))
  iapply (start_copy c _ y f (4 * k.val) (by omega) (k0_off2 k) _ (k0_off3 (copy_step.sl.r c arg1 f1 k)) _ (dst_off 0 0 k (by omega) rfl _ _ (by omega))
    (src_off _ hx _ _ _ ((read_pos c arg1 f1 _ _ 0 ⟨k.val, hk⟩ (off_pos 0 k)).trans (pos_num _ 0 k.val hk _ _ (by show 4 * k.val = 4 * k.val + 0; omega))))) $$ [HS0 HR0 HB]
  · isplitl [HS0]; · iexact HS0
    isplitl [HR0]; · iexact HR0
    iexact HB
  iintro HB
  sl_exec (disch := first | exact chk1_of (hx _) | exact chk2_of (hx _) | exact chk3_of (hx _) | exact chk4_of (hx _))
  iapply (start_copy c _ y f (4 * k.val + 1) (by omega) (k0_off5 k) _ (k0_off6 (copy_step.sl.r_1 c arg1 f1 k)) _ (dst_off 1 1 k (by omega) rfl _ _ (by omega))
    (src_off _ hx _ _ _ ((read_pos c arg1 f1 _ _ 1 ⟨k.val, hk⟩ (off_pos 1 k)).trans (pos_num _ 1 k.val hk _ _ (by show 4 * k.val + 1 = 4 * k.val + 1; omega))))) $$ [HS1 HR1 HB]
  · isplitl [HS1]; · iexact HS1
    isplitl [HR1]; · iexact HR1
    iexact HB
  iintro HB
  sl_exec (disch := first | exact chk1_of (hx _) | exact chk2_of (hx _) | exact chk3_of (hx _) | exact chk4_of (hx _))
  iapply (start_copy c _ y f (4 * k.val + 1 + 1) (by omega) (k0_off8 k) _ (k0_off9 (copy_step.sl.r_2 c arg1 f1 k)) _ (dst_off 2 2 k (by omega) rfl _ _ (by omega))
    (src_off _ hx _ _ _ ((read_pos c arg1 f1 _ _ 2 ⟨k.val, hk⟩ (off_pos 2 k)).trans (pos_num _ 2 k.val hk _ _ (by show 4 * k.val + 1 + 1 = 4 * k.val + 2; omega))))) $$ [HS2 HR2 HB]
  · isplitl [HS2]; · iexact HS2
    isplitl [HR2]; · iexact HR2
    iexact HB
  iintro HB
  sl_exec (disch := first | exact chk1_of (hx _) | exact chk2_of (hx _) | exact chk3_of (hx _) | exact chk4_of (hx _))
  iapply (start_copy c _ y f (4 * k.val + 1 + 1 + 1) (by omega) (k0_off11 k) _ (k0_off12 (copy_step.sl.r_3 c arg1 f1 k)) _ (dst_off 3 3 k (by omega) rfl _ _ (by omega))
    (src_off _ hx _ _ _ ((read_pos c arg1 f1 _ _ 3 ⟨k.val, hk⟩ (off_pos 3 k)).trans (pos_num _ 3 k.val hk _ _ (by show 4 * k.val + 1 + 1 + 1 = 4 * k.val + 3; omega))))) $$ [HS3 HR3 HB]
  · isplitl [HS3]; · iexact HS3
    isplitl [HR3]; · iexact HR3
    iexact HB
  iintro HB
  sl_exec
  sl_step
  isplitl [HB]; · iexact HB
  isplitl [HP]; · iexact HP
  isplitl [HRs]; · iexact HRs
  iexact HSs

/-! ## The waiting loop -/

/-- Before trip `k`: the first `k` tokens' copies waited for; after the last, everything they brought. -/
def waitAt (x : Vec F S4x256 .i32) (y : Vec F S40960x2048 .f32) (k : ℕ) (_ : Unit) : sProp 𝕄 :=
  iprop((∃ W, owes (c : Thread nD τ) 0 W)
    ∗ (if k < 256 then copies c x y 256 1024 (4 * k * 256)
       else iprop(semVal ((c : Thread nD τ), SemLoc.dma 10) 0 ∗ bigSep Finset.univ (brought c x y))))

set_option maxHeartbeats 4000000 in
theorem wait_step (i : grid0.Coords) (arg1 : Memref sig .tc .smem S4x256 .i32) (harg1 : arg1.IsWhole) (arg3 : Memref sig .tc .vmem S256x4 .f32) (harg3 : arg3.IsWhole)
    (arg4 : Memref sig .tc .vmem S256x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S256x2048 .f32) (harg7 : arg7.IsWhole)
    (x : Vec F S4x256 .i32) (y : Vec F S40960x2048 .f32) (k : Fin k0_t2_loop.trips) (acc : Unit) :
    waitAt c x y k acc ⊢ wp frame (wpE (defs₀ (F := F)) Variants.none c none) Set.univ
      (k0_t2_body i arg1 harg1 ys (Memref.isWhole_whole _) arg3 harg3 arg4 harg4 arg5 harg5 arg6 harg6 arg7 harg7 sc (Memref.isWhole_whole _) cc0_scratch1 k acc)
      (waitAt c x y (k.val + 1)) := by
  have hk : k.val < 256 := lt_of_lt_of_eq k.isLt trips_eq'
  unfold waitAt
  simp only [if_pos hk]
  rcases Nat.lt_or_ge (k.val + 1) 256 with h1 | h1
  · simp only [if_pos h1]
    iintro ⟨⟨%W, HO⟩, HB⟩
    unfold k0_t2_body
    sl_exec
    sl_step
    isplitl [HO]; · iexists _; iexact HO
    rw [show 4 * (k.val + 1) * 256 = 4 * k.val * 256 + 256 + 256 + 256 + 256 by omega]
    iexact HB
  · simp only [if_neg (Nat.not_lt.mpr h1)]
    iintro ⟨⟨%W, HO⟩, HB⟩
    unfold k0_t2_body
    sl_exec
    sl_step
    isplitl [HO]; · iexists _; iexact HO
    isplitl [HB]; · iexact HB
    iexact HB_all

/-! ## The rows as they are lent and handed back -/

/-- The scratch buffer is its 1024 rows. -/
theorem scratch_rows (f : Vec F S4x256x2048 .f32) :
    (sc.view.loc (c : Thread nD τ) ↦{fullShare} f : sProp 𝕄) = bigSep Finset.univ (rowPt c f) := by
  refine Ring.pointsTo_blocks (ℓ := sc.view.loc (c : Thread nD τ)) (q := fullShare) (fun j : Fin 1024 => rowI (kOf j) (tOf j)) ?_ ?_ f
  · intro j j' hne
    rw [Finset.disjoint_left]; intro z hz hz'
    rw [mem_rowI] at hz hz'
    refine hne (Fin.ext ?_)
    have h0 : (z 0).val = j.val % 4 := hz.1
    have h1 : (z 1).val = j.val / 4 := hz.2
    have h2 : (z 0).val = j'.val % 4 := hz'.1
    have h3 : (z 1).val = j'.val / 4 := hz'.2
    omega
  · ext z
    simp only [Finset.mem_biUnion, Finset.mem_univ, true_and, iff_true]
    have h0 : (z 0).val < 4 := (z 0).isLt
    have h1 : (z 1).val < 256 := (z 1).isLt
    refine ⟨⟨4 * (z 1).val + (z 0).val, by omega⟩, (mem_rowI _ _ _).mpr ⟨?_, ?_⟩⟩
    · show (z 0).val = (4 * (z 1).val + (z 0).val) % 4; omega
    · show (z 1).val = (4 * (z 1).val + (z 0).val) / 4; omega

theorem swap (P Q R : sProp 𝕄) : iprop(P ∗ Q ∗ R) ⊢ iprop(Q ∗ P ∗ R) := by
  iintro ⟨H1, H2, H3⟩
  isplitl [H2]; · iexact H2
  isplitl [H1] <;> iassumption

/-- What is kept of the experts' rows while they are lent: the share no copy gets, and of every copy's share the other rows. -/
abbrev kept (x : Vec F S4x256 .i32) (y : Vec F S40960x2048 .f32) : sProp 𝕄 :=
  iprop((ys.view.loc (c : Thread nD τ) ↦{Transfers.shareDrop fullShare 1024} y)
    ∗ bigSep Finset.univ (fun j : Fin 1024 => (ys.view.loc (c : Thread nD τ) ↦[Finset.univ \ srcI (pick x (kOf j) (tOf j))]{Transfers.shareTokN fullShare j.val} y : sProp 𝕄)))

/-- The experts' rows are what is lent to the 1024 copies and what is kept. -/
theorem rows_lent (x : Vec F S4x256 .i32) (y : Vec F S40960x2048 .f32) :
    (ys.view.loc (c : Thread nD τ) ↦{fullShare} y : sProp 𝕄) = iprop(bigSep Finset.univ (srcPt c x y) ∗ kept c x y) := by
  have h1 : (ys.view.loc (c : Thread nD τ) ↦{fullShare} y : sProp 𝕄)
      = iprop((ys.view.loc (c : Thread nD τ) ↦{Transfers.shareDrop fullShare 1024} y)
          ∗ bigSep (Finset.range 1024) (fun j => (ys.view.loc (c : Thread nD τ) ↦{Transfers.shareTokN fullShare j} y : sProp 𝕄))) :=
    equiv_iff.mp ⟨(Transfers.pointsTo_toks_range fullShare 1024).1, (Transfers.pointsTo_toks_range fullShare 1024).2⟩
  have h2 : bigSep (Finset.range 1024) (fun j => (ys.view.loc (c : Thread nD τ) ↦{Transfers.shareTokN fullShare j} y : sProp 𝕄))
      = bigSep (Finset.univ : Finset (Fin 1024)) (fun j => BI.sep (srcPt c x y j)
          (ys.view.loc (c : Thread nD τ) ↦[Finset.univ \ srcI (pick x (kOf j) (tOf j))]{Transfers.shareTokN fullShare j.val} y : sProp 𝕄)) := by
    symm
    refine Ring.bigSep_fin_eq_range 1024 _ _ fun t ht => ?_
    exact equiv_iff.mp ⟨(pointsTo_split_subset (Finset.subset_univ _)).1, (pointsTo_split_subset (Finset.subset_univ _)).2⟩
  rw [h1, h2, BI.bigSep_sep]
  unfold kept
  exact equiv_iff.mp ⟨swap _ _ _, swap _ _ _⟩

/-- After the copying loop every copy is started; the rows are all lent. -/
theorem copies_started (arg1 : Memref sig .tc .smem S4x256 .i32) (f1 : Buf (Elt F) (arg1.view.loc (c : Thread nD τ)))
    (y : Vec F S40960x2048 .f32) (f : Vec F S4x256x2048 .f32) (acc : Unit) :
    copyAt c arg1 f1 y f k0_t1_loop.trips acc ⊢ iprop(copies c (arg1.view.read (Elt F) f1) y 256 1024 0 ∗ posPt c arg1 f1) := by
  unfold copyAt
  rw [show 4 * k0_t1_loop.trips = 1024 by rw [trips_eq]]
  iintro ⟨HB, HP, -, -⟩
  isplitl [HB] <;> iassumption

/-- After the waiting loop the scratch buffer holds the picked rows and every row lent is back. -/
theorem copies_awaited (x : Vec F S4x256 .i32) (y : Vec F S40960x2048 .f32) (acc : Unit) :
    waitAt c x y k0_t2_loop.trips acc ⊢ iprop((∃ W, owes (c : Thread nD τ) 0 W) ∗ semVal ((c : Thread nD τ), SemLoc.dma 10) 0
      ∗ (sc.view.loc (c : Thread nD τ) ↦{fullShare} picked x y) ∗ bigSep Finset.univ (srcPt c x y)) := by
  unfold waitAt
  rw [trips_eq', if_neg (by decide), scratch_rows]
  have e : (bigSep Finset.univ (brought c x y) : sProp 𝕄) = iprop(bigSep Finset.univ (rowPt c (picked x y)) ∗ bigSep Finset.univ (srcPt c x y)) :=
    BI.bigSep_sep Finset.univ (rowPt c (picked x y)) (srcPt c x y)
  rw [e]

/-! ## The body -/

/-- The parts of the buffers the body reads after the copies, as it addresses them: a pick's slab, a pick's gates, whole
    blocks. -/
abbrev rS0 : Rect S4x256x2048 := Rect.unit (s := S4x256x2048) ![0, 0, 0] S1x256x2048.size inb_S4x256x2048_S1x256x2048_0_0_0
abbrev rS1 : Rect S4x256x2048 := Rect.unit (s := S4x256x2048) ![1, 0, 0] S1x256x2048.size inb_S4x256x2048_S1x256x2048_1_0_0
abbrev rS2 : Rect S4x256x2048 := Rect.unit (s := S4x256x2048) ![2, 0, 0] S1x256x2048.size inb_S4x256x2048_S1x256x2048_2_0_0
abbrev rS3 : Rect S4x256x2048 := Rect.unit (s := S4x256x2048) ![3, 0, 0] S1x256x2048.size inb_S4x256x2048_S1x256x2048_3_0_0
abbrev rG0 : Rect S256x4 := Rect.unit (s := S256x4) ![0, 0] S256x1.size inb_S256x4_S256x1_0_0
abbrev rG1 : Rect S256x4 := Rect.unit (s := S256x4) ![0, 1] S256x1.size inb_S256x4_S256x1_0_1
abbrev rG2 : Rect S256x4 := Rect.unit (s := S256x4) ![0, 2] S256x1.size inb_S256x4_S256x1_0_2
abbrev rG3 : Rect S256x4 := Rect.unit (s := S256x4) ![0, 3] S256x1.size inb_S256x4_S256x1_0_3
abbrev rB : Rect S256x2048 := Rect.unit (s := S256x2048) ![0, 0] S256x2048.size inb_S256x2048_S256x2048_0_0
abbrev rV : Rect S1x2048 := Rect.unit (s := S1x2048) ![0, 0] S1x2048.size inb_S1x2048_S1x2048_0_0

/-- What the output's buffer holds after a point: the picked rows `w`, weighed, with the residual added, normalised. -/
def outOf (w : Vec F S4x256x2048 .f32) (x1 : Vec F S256x4 .f32) (x2 : Vec F S256x2048 .f32) (x3 x4 : Vec F S1x2048 .f32) : Vec F S256x2048 .f32 :=
  View.canon [⟨rB, k0_pay1 (k0_pay2 (View.ld w rS0) (View.ld x1 rG0) (View.ld w rS1) (View.ld x1 rG1) (View.ld w rS2) (View.ld x1 rG2) (View.ld w rS3) (View.ld x1 rG3))
    (View.ld x2 rB) (View.ld x3 rV) (View.ld x4 rV)⟩]

/-- A store of a whole block covers it. -/
theorem covers (p0 : Vec F S256x2048 .f32) (z : S256x2048.Idx) : ∃ pc ∈ ([⟨rB, p0⟩] : List (View.Piece (Elt F) S256x2048 .f32)), z ∈ pc.1.set :=
  View.cover_of_tiled [⟨rB, p0⟩] S256x2048.size (by rfl) z

set_option maxHeartbeats 8000000 in
/-- The body on whole staging memrefs, the block's positions being rows of the experts' rows: the inputs and the experts'
    rows end as they were, and the output's buffer holds the combination. -/
theorem runs (i : grid0.Coords) (arg1 : Memref sig .tc .smem S4x256 .i32) (harg1 : arg1.IsWhole) (arg3 : Memref sig .tc .vmem S256x4 .f32) (harg3 : arg3.IsWhole)
    (arg4 : Memref sig .tc .vmem S256x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S256x2048 .f32) (harg7 : arg7.IsWhole)
    (x : Vec F S4x256 .i32) (y : Vec F S40960x2048 .f32) (x1 : Vec F S256x4 .f32) (x2 : Vec F S256x2048 .f32) (x3 x4 : Vec F S1x2048 .f32)
    (hx : ∀ z, (show BitVec 32 from x z).toNat < 40960) (W : _) (K : PUnit → sProp 𝕄) :
    iprop(owns (c : Thread nD τ) arg1 fullShare x ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (∃ f : Vec F S4x256x2048 .f32, sc.view.loc (c : Thread nD τ) ↦{fullShare} f) ∗ semVal ((c : Thread nD τ), SemLoc.dma 10) 0
        ∗ (ys.view.loc (c : Thread nD τ) ↦{fullShare} y) ∗ owes (c : Thread nD τ) 0 W
        ∗ (iprop(owns (c : Thread nD τ) arg1 fullShare x ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (outOf (picked x y) x1 x2 x3 x4)
        ∗ (∃ f : Vec F S4x256x2048 .f32, sc.view.loc (c : Thread nD τ) ↦{fullShare} f) ∗ semVal ((c : Thread nD τ), SemLoc.dma 10) 0
        ∗ (ys.view.loc (c : Thread nD τ) ↦{fullShare} y) ∗ (∃ W', owes (c : Thread nD τ) 0 W')) -∗ K ⟨⟩))
      ⊢ wp frame (wpE (defs₀ (F := F)) Variants.none c none) Set.univ
          (cc0_moe_combine_layernorm i arg1 harg1 ys (Memref.isWhole_whole _) arg3 harg3 arg4 harg4 arg5 harg5 arg6 harg6 arg7 harg7 sc (Memref.isWhole_whole _) cc0_scratch1) K := by
  rw [cc0_moe_combine_layernorm_eq_skeleton]; unfold cc0_moe_combine_layernorm_skel
  rw [k0_part1_eq_skeleton]; unfold k0_part1_skel
  simp only [bind_assoc]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f, HS⟩, Hq, HY, HO, Hk⟩
  subst hf0 hf1 hf2 hf3 hf4
  have hsc : sc.IsWhole := Memref.isWhole_whole _
  ihave HS := (Entails.of_eq (scratch_rows c f)) $$ HS
  ihave HY := (Entails.of_eq (rows_lent c (arg1.view.read (Elt F) f0) y)) $$ HY
  icases HY with ⟨HY, HK⟩
  imod (Transfers.batch_alloc' (Lvl := ℕ) (countersEmb (U := Pipeline.UD sig nD τ)) (c : Thread nD τ) () 256 (brought c (arg1.view.read (Elt F) f0) y) (sm := SemLoc.dma 10) (E := Set.univ)) $$ Hq with HB
  sl_for (copyAt c arg1 f0 y f) $$ [HB H0 HS HY]
  · intro k acc; exact copy_step c i arg1 harg1 arg3 harg3 arg4 harg4 arg5 harg5 arg6 harg6 arg7 harg7 f0 y f hx k acc
  · unfold copyAt
    rw [show Ring.rangeSet 1024 (4 * 0) 1024 = Finset.univ from Ring.rangeSet_univ]
    isplitl [HB]; · iexact HB
    isplitl [H0]; · iexact H0
    isplitl [HS]; · iexact HS
    iexact HY
  iintro %acc HL
  ihave HL := (copies_started c arg1 f0 y f acc) $$ HL
  icases HL with ⟨HB, H0⟩
  sl_exec
  sl_for (waitAt c (arg1.view.read (Elt F) f0) y) $$ [HB HO]
  · intro k acc'; exact wait_step c i arg1 harg1 arg3 harg3 arg4 harg4 arg5 harg5 arg6 harg6 arg7 harg7 _ y k acc'
  · unfold waitAt
    rw [if_pos (by decide)]
    isplitl [HO]; · iexists _; iexact HO
    iexact HB
  iintro %acc' HL
  ihave HL := (copies_awaited c (arg1.view.read (Elt F) f0) y acc') $$ HL
  icases HL with ⟨⟨%W', HO⟩, Hq, HS, HY⟩
  ihave HY := (Entails.of_eq (rows_lent c (arg1.view.read (Elt F) f0) y).symm) $$ [HY HK]
  · isplitl [HY]; · iexact HY
    iexact HK
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    exact View.read_writes_eq_canon _ _ _ (covers _)
  isplitl [HS]; · iexists _; iexact HS
  isplitl [Hq]; · iexact Hq
  isplitl [HY]; · iexact HY
  iexists _; iexact HO

/-! ## The host operations before the region -/

variable (m : (ℓ : Loc nD τ sig) → Buf (Elt F) ℓ) (ρ : Dev nD → PrngReg)

/-- Core `c`'s buffers when the region is entered: after the host operations. -/
abbrev V (m : (ℓ : Loc nD τ sig) → Buf (Elt F) ℓ) (c : Dev nD) (b : Ref sig .tc) : Buf (Elt F) ((c : Thread nD τ).loc b) := StableHlo.after hostOps0 (fun b => m (c, b)) b

/-- No host operation allocates. -/
theorem host_fresh : (hostOps0 : List (HloOp τ sig (Elt F))).Forall fun op => op.fresh = ∅ := by
  simp only [List.Forall]; repeat' constructor

/-- @main is the host operations and then the region. -/
theorem main_runs (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub host_fresh main_chain

/-- A buffer that no host operation writes is found as launched. -/
theorem V_eq (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

/-! ## The proof data -/

/-- Window `w`'s block at point `t`, of its array as the region finds it. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the output's buffer holds after point `t`. -/
def outAt (t : Fin cfg0.N) : Vec F S256x2048 .f32 :=
  outOf (picked (iblk c m (0 : Fin 6) t) (V m c main_arg0)) (iblk c m (1 : Fin 6) t) (iblk c m (2 : Fin 6) t) (iblk c m (3 : Fin 6) t) (iblk c m (4 : Fin 6) t)

/-- The body's own semaphore, counted by its copies. -/
abbrev osem0 : Fin 1 → SemLoc sig := fun j => (![SemLoc.dma 10] : Fin 1 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = semVal ((c : Thread nD τ), SemLoc.dma 10) 0 := by
  rw [Pipeline.ownSems0_eq_of_list c osem0 [0] (by decide) (by decide)]; rfl

/-- The operand the copies read where it is, and the arrays the body would write itself: none. -/
def H0 : Finset (Ref sig .tc) := {main_arg0}
theorem H0_sub : H0 ⊆ Pipeline.restRefs sig spec0 := by decide
def R0 : Finset (Ref sig .tc) := ∅
theorem R0_sub : R0 ⊆ Pipeline.restRefs sig spec0 \ H0 := by decide
theorem hbmPts0_eq :
    (bigSep H0 (fun b => ((c : Thread nD τ).loc b) ↦{fullShare} V m c b) : sProp 𝕄) = (ys.view.loc (c : Thread nD τ) ↦{fullShare} V m c main_arg0) := by
  rw [BI.bigSep_eq_bigSepL_of_eq [main_arg0] (by decide) (by decide)]; rfl

/-- What the body keeps between points: the scratch buffer at any contents, its semaphore at zero, the experts' rows. -/
theorem inv_eq :
    (Pipeline.ΦDR osem0 spec0 H0 R0 (V m) c : sProp 𝕄)
      = iprop((∃ f : Vec F S4x256x2048 .f32, sc.view.loc (c : Thread nD τ) ↦{fullShare} f) ∗ (∃ r, prngReg c r)
          ∗ semVal ((c : Thread nD τ), SemLoc.dma 10) 0 ∗ (ys.view.loc (c : Thread nD τ) ↦{fullShare} V m c main_arg0) ∗ Pipeline.owned R0 c) := by
  rw [Pipeline.ΦDR_eq, scopedRest0_eq, ownSems00_eq, hbmPts0_eq]; rfl

/-- The proof data: every input's buffer at its block, the output's at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk c m (0 : Fin 6) t
    | ⟨1, _⟩ => iblk c m (1 : Fin 6) t
    | ⟨2, _⟩ => iblk c m (2 : Fin 6) t
    | ⟨3, _⟩ => iblk c m (3 : Fin 6) t
    | ⟨4, _⟩ => iblk c m (4 : Fin 6) t
    | ⟨5, _⟩ => outAt c m t
  Φ _ := Pipeline.ΦDR osem0 spec0 H0 R0 (V m) c
  q _ := fullShare
  owed _ := 0

/-- The arrays are as the region finds them. -/
theorem A_eq (w : Fin cfg0.W) : (dats m 0 c).A w = V m c (Pipeline.arrRef spec0 w) := by dsimp only [dats]

/-- Every input's buffer holds its block after the body and before it. -/
theorem after_0 (t : Fin cfg0.N) : (dats m 0 c).after (0 : Fin 6) t = iblk c m (0 : Fin 6) t := by dsimp only [dats]
theorem before_0 (t : Fin cfg0.N) (d) : (dats m 0 c).before (0 : Fin 6) t d = iblk c m (0 : Fin 6) t :=
  ((dats m 0 c).before_in_eq_fetched (0 : Fin 6) rfl (fun _ => rfl) (fun _ _ _ => rfl) (fun t => by rw [after_0]; unfold Dat.blockOf iblk; rw [A_eq]; try rfl) t d).trans
    (by unfold Dat.fetched Dat.blockOf iblk; rw [A_eq]; try rfl)
theorem after_1 (t : Fin cfg0.N) : (dats m 0 c).after (1 : Fin 6) t = iblk c m (1 : Fin 6) t := by dsimp only [dats]
theorem before_1 (t : Fin cfg0.N) (d) : (dats m 0 c).before (1 : Fin 6) t d = iblk c m (1 : Fin 6) t :=
  ((dats m 0 c).before_in_eq_fetched (1 : Fin 6) rfl (fun _ => rfl) (fun _ _ _ => rfl) (fun t => by rw [after_1]; unfold Dat.blockOf iblk; rw [A_eq]; try rfl) t d).trans
    (by unfold Dat.fetched Dat.blockOf iblk; rw [A_eq]; try rfl)
theorem after_2 (t : Fin cfg0.N) : (dats m 0 c).after (2 : Fin 6) t = iblk c m (2 : Fin 6) t := by dsimp only [dats]
theorem before_2 (t : Fin cfg0.N) (d) : (dats m 0 c).before (2 : Fin 6) t d = iblk c m (2 : Fin 6) t :=
  ((dats m 0 c).before_in_eq_fetched (2 : Fin 6) rfl (fun _ => rfl) (fun _ _ _ => rfl) (fun t => by rw [after_2]; unfold Dat.blockOf iblk; rw [A_eq]; try rfl) t d).trans
    (by unfold Dat.fetched Dat.blockOf iblk; rw [A_eq]; try rfl)
theorem after_3 (t : Fin cfg0.N) : (dats m 0 c).after (3 : Fin 6) t = iblk c m (3 : Fin 6) t := by dsimp only [dats]
theorem before_3 (t : Fin cfg0.N) (d) : (dats m 0 c).before (3 : Fin 6) t d = iblk c m (3 : Fin 6) t :=
  ((dats m 0 c).before_in_eq_fetched (3 : Fin 6) rfl (fun _ => rfl) (fun _ _ _ => rfl) (fun t => by rw [after_3]; unfold Dat.blockOf iblk; rw [A_eq]; try rfl) t d).trans
    (by unfold Dat.fetched Dat.blockOf iblk; rw [A_eq]; try rfl)
theorem after_4 (t : Fin cfg0.N) : (dats m 0 c).after (4 : Fin 6) t = iblk c m (4 : Fin 6) t := by dsimp only [dats]
theorem before_4 (t : Fin cfg0.N) (d) : (dats m 0 c).before (4 : Fin 6) t d = iblk c m (4 : Fin 6) t :=
  ((dats m 0 c).before_in_eq_fetched (4 : Fin 6) rfl (fun _ => rfl) (fun _ _ _ => rfl) (fun t => by rw [after_4]; unfold Dat.blockOf iblk; rw [A_eq]; try rfl) t d).trans
    (by unfold Dat.fetched Dat.blockOf iblk; rw [A_eq]; try rfl)
/-- What the output's buffer holds after the body. -/
theorem after_5 (t : Fin cfg0.N) : (dats m 0 c).after (5 : Fin 6) t = outAt c m t := by dsimp only [dats]

/-! ## The body at every point -/

/-- The positions given are rows of the experts' rows. -/
abbrev InRange : Prop := ∀ (c : Dev nD) (z : S4x8192.Idx), (show BitVec 32 from m ((c : Thread nD τ).loc main_arg1) z).toNat < 40960

/-- So are those of every block. -/
theorem block_in_range (hR : InRange m) (t : Fin cfg0.N) (z : S4x256.Idx) : (show BitVec 32 from iblk c m (0 : Fin 6) t z).toNat < 40960 := by
  unfold iblk
  rw [show V m c (Pipeline.arrRef spec0 (0 : Fin 6)) = m ((c : Thread nD τ).loc main_arg1) from V_eq c m main_arg1 (by decide) (by decide) (by decide)]
  exact hR c _

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before (0 : Fin 6) t d))
    ∗ (∃ d, owns (c : Thread nD τ) (st0_1 t) fullShare ((dats m 0 c).before (1 : Fin 6) t d))
    ∗ (∃ d, owns (c : Thread nD τ) (st0_2 t) fullShare ((dats m 0 c).before (2 : Fin 6) t d))
    ∗ (∃ d, owns (c : Thread nD τ) (st0_3 t) fullShare ((dats m 0 c).before (3 : Fin 6) t d))
    ∗ (∃ d, owns (c : Thread nD τ) (st0_4 t) fullShare ((dats m 0 c).before (4 : Fin 6) t d))
    ∗ (∃ d, owns (c : Thread nD τ) (st0_5 t) fullShare ((dats m 0 c).before (5 : Fin 6) t d)))
def bodyPost (t : Fin cfg0.N) : sProp 𝕄 :=
  iprop((dats m 0 c).Φ t.succ ∗ (dats m 0 c).owesAt () t.succ
    ∗ owns (c : Thread nD τ) (st0_0 t) fullShare ((dats m 0 c).after (0 : Fin 6) t)
    ∗ owns (c : Thread nD τ) (st0_1 t) fullShare ((dats m 0 c).after (1 : Fin 6) t)
    ∗ owns (c : Thread nD τ) (st0_2 t) fullShare ((dats m 0 c).after (2 : Fin 6) t)
    ∗ owns (c : Thread nD τ) (st0_3 t) fullShare ((dats m 0 c).after (3 : Fin 6) t)
    ∗ owns (c : Thread nD τ) (st0_4 t) fullShare ((dats m 0 c).after (4 : Fin 6) t)
    ∗ owns (c : Thread nD τ) (st0_5 t) fullShare ((dats m 0 c).after (5 : Fin 6) t))

set_option maxHeartbeats 1000000 in
/-- The body at point `t`. -/
theorem body_at (hR : InRange m) (t : Fin cfg0.N) :
    bodyPre c m t ⊢ wp frame (wpE (defs₀ (F := F)) Variants.none c none) Set.univ (bodyAt0 t) (fun _ => bodyPost c m t) := by
  unfold bodyPre bodyPost bodyAt0
  simp only [before_0, before_1, before_2, before_3, before_4]
  rw [after_0, after_1, after_2, after_3, after_4, after_5]
  rw [show (dats m 0 c).Φ t.succ = (dats m 0 c).Φ t.castSucc from rfl,
    show (dats m 0 c).Φ t.castSucc = Pipeline.ΦDR osem0 spec0 H0 R0 (V m) c from rfl, inv_eq]
  unfold Dat.owesAt Pipeline.owesWithin
  rw [show (dats m 0 c).owed t.castSucc = 0 from rfl, show (dats m 0 c).owed t.succ = 0 from rfl]
  unfold outAt
  iintro ⟨⟨HS, Hg, Hq, HY, HR⟩, ⟨%W, -, HW⟩, ⟨%d0, H0⟩, ⟨%d1, H1⟩, ⟨%d2, H2⟩, ⟨%d3, H3⟩, ⟨%d4, H4⟩, ⟨%d5, H5⟩⟩
  iapply (runs c (grid0.coords t) _ _ _ _ _ _ _ _ _ _ _ _ (iblk c m (0 : Fin 6) t) (V m c main_arg0) (iblk c m (1 : Fin 6) t) (iblk c m (2 : Fin 6) t)
    (iblk c m (3 : Fin 6) t) (iblk c m (4 : Fin 6) t) (block_in_range c m hR t) W _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [Hq]; · iexact Hq
  isplitl [HY]; · iexact HY
  isplitl [HW]; · iexact HW
  iintro ⟨H0, H1, H2, H3, H4, H5, HS, Hq, HY, ⟨%W', HW⟩⟩
  isplitl [HS Hg Hq HY HR]
  · isplitl [HS]; · iexact HS
    isplitl [Hg]; · iexact Hg
    isplitl [Hq]; · iexact Hq
    isplitl [HY]; · iexact HY
    iexact HR
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

/-- The row of the body table at point `t` is the body there. -/
theorem row_eq (t : Fin cfg0.N) : defs₀ (F := F) .tc cfg0.body (cfg0.bodyArgs t (cfg0.slots t)) = bodyAt0 t := by
  unfold defs₀; rw [Defs.onTc_tc]

/-- So the body keeps its obligation at every point. -/
theorem body_obligation (hR : InRange m) (c : Dev nD) : BodyObligation (dats (F := F) m 0 c) (defs₀ (F := F)) Variants.none () Set.univ := fun t => by
  rw [bigSep_W0, bigSep_W0, row_eq]
  exact triple_restated (body_at c m hR t) rfl .rfl fun _ => .rfl

/-! ## The run -/

set_option backward.isDefEq.respectTransparency.types false in
set_option maxHeartbeats 1600000 in
/-- The run of @main: every array ends at what the points' blocks leave, every other buffer as the region found it, and
    every semaphore counter at zero. -/
theorem run_main (hR : InRange m) : θ_run defs (onTc (τ := τ) (main (F := F))) (s₀ m ρ)
    (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m hR c).loose) (hshare := fun c => (dats m 0 c).share_full fun _ => rfl)
    (howed := fun _ _ => rfl) (V := V m) (hmain := main_runs m Variants.none) (hA := fun c => A_eq c m)
    (hin := fun _ => .rfl) (hout := fun _ => .rfl)

/-- An array that no window stages ends as launched. -/
theorem rest_kept {r : _} (h : Pipeline.FramePostR cfgs (dats (F := F) m) 0 R0 (V m) r) (b : Ref sig .tc) (hb : b ∈ Pipeline.restRefs sig spec0 \ R0)
    (h0 : b ≠ main_v0) (h1 : b ≠ main_v1) (h2 : b ≠ main_v2) : r.2.mem ((c : Thread nD τ).loc b) = m ((c : Thread nD τ).loc b) :=
  ((h c).2 b hb).trans (V_eq c m b h0 h1 h2)

/-- The run, read: the result array ends at what the points' blocks leave, every argument array as it was, every
    semaphore counter at zero. -/
theorem run_all (hR : InRange m) : θ_run defs (onTc (τ := τ) (main (F := F))) ⟨m, fun _ => 0, ρ⟩ (fun r => (∀ c : Dev nD,
      r.2.mem ((c.tc : Thread nD τ).loc main_v3) = (dats m 0 c).arrAt (5 : Fin 6) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (5 : Fin 6), rest_kept c m h.1 main_arg0 (by decide) (by decide) (by decide) (by decide),
      ((h.1 c).1 (0 : Fin 6)).trans (((dats m 0 c).arrAt_in (0 : Fin 6) rfl _).trans ((A_eq c m 0).trans (V_eq c m main_arg1 (by decide) (by decide) (by decide)))),
      rest_kept c m h.1 main_arg2 (by decide) (by decide) (by decide) (by decide),
      ((h.1 c).1 (2 : Fin 6)).trans (((dats m 0 c).arrAt_in (2 : Fin 6) rfl _).trans ((A_eq c m 2).trans (V_eq c m main_arg3 (by decide) (by decide) (by decide)))),
      rest_kept c m h.1 main_arg4 (by decide) (by decide) (by decide) (by decide),
      rest_kept c m h.1 main_arg5 (by decide) (by decide) (by decide) (by decide)⟩, h.2⟩) (run_main m ρ hR)

end Cert.Proof.CombineIdealRun

end
-- ==== Proof.Combine.lean ====
/-
  The combination of the experts' rows: each token sums its four picked rows, weighed by its gates, onto the scaled
  residual, and is normalised.
-/
module

public import proofs.«01_k».proof.Defs
public import proofs.«01_k».proof.Proof.Attn
public import proofs.«01_k».proof.Proof.CombineRun
public import proofs.«01_k».proof.Proof.CombineIdealRun
public import proofs.«01_k».proof.Proof.Gen.CombineRefIdeal.Read
public import proofs.«01_k».proof.Proof.Gen.Pre_positions_in_range
public import Idealize.ShloMosaic.Lib.ReduceAll
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Pre_positions_in_range.Entry
open Cert.Pre_positions_in_range

variable {F : FTy → Type} [FloatOps F]

instance : Subsingleton S_.Idx := ⟨fun _ _ => funext fun a => a.elim0⟩

/-- A word that is at least 0 and less than 40960 as a signed number is less than 40960 as an unsigned one. -/
theorem toNat_lt (w : BitVec 32) (h0 : (0#32).sle w = true) (h1 : w.slt 40960#32 = true) : w.toNat < 40960 := by
  rw [BitVec.sle_iff_toInt_le] at h0
  rw [BitVec.slt_iff_toInt_lt] at h1
  rw [show (0#32).toInt = 0 by decide] at h0
  rw [show (40960#32).toInt = 40960 by decide] at h1
  have := w.isLt
  rw [BitVec.toInt] at h0 h1
  split at h0 <;> omega

/-- The precondition, entry by entry: every position is a number less than 40960. -/
theorem bound (x0 : Vec F S40960x2048 .f32) (d : IVec S4x8192 32) (x2 : Vec F S4x8192 .f32) (x3 : Vec F S8192x2048 .f32) (x4 x5 : Vec F S2048 .f32)
    (h : fn (F := F) x0 d x2 x3 x4 x5 = fun _ => 1#1) (j : S4x8192.Idx) : (d j).toNat < 40960 := by
  have and1 : ∀ a b : BitVec 1, IntOp.andi a b = 1#1 → a = 1#1 ∧ b = 1#1 := by decide
  have bool1 : ∀ p : Bool, BitVec.ofBool p = 1#1 → p = true := by decide
  unfold fn at h
  have hj : IntOp.andi (IntOp.cmpi .sge (d j) 0#32) (IntOp.cmpi .slt (d j) 40960#32) = 1#1 :=
    Host.reduce_andi_all _ _ Facts.reducesTo_S4x8192_S_d0_1 Facts.h_S_ (Shape.Idx.first Facts.h_S_) (congrFun h _) j
  exact toNat_lt _ (bool1 _ (and1 _ _ hj).1) (bool1 _ (and1 _ _ hj).2)

end Cert.Pre_positions_in_range.Entry

namespace Cert.CombineRefIdeal.Entry
open Cert.CombineRefIdeal Cert.CombineRefIdeal.Read

/-- Picking rows: entry `(k, s, j)` is entry `j` of the row that word `(k, s)` names. -/
theorem rows_at (x : S40960x2048.Idx → EReal) (idx : IVec S4x8192x1 32) (k : Fin 4) (s : Fin 8192) (j : Fin 2048) (e : Fin 40960)
    (he : (idx (ix3 k s 0)).toInt = e.val) : Host.gather (gather_S40960x2048_S4x8192x1_S4x8192x2048_2_0_n_n_0_2_12048) x idx (ix3 k s j) = x (ix2 e j) := by
  unfold Host.gather
  refine congrArg x (funext fun a => Fin.ext ?_)
  show gather_S40960x2048_S4x8192x1_S4x8192x2048_2_0_n_n_0_2_12048.start (ix3 k s j) idx a + gather_S40960x2048_S4x8192x1_S4x8192x2048_2_0_n_n_0_2_12048.batchCoord (ix3 k s j) a
    + gather_S40960x2048_S4x8192x1_S4x8192x2048_2_0_n_n_0_2_12048.offCoord (ix3 k s j) a = _
  rw [GatherDims.batchCoord_eq_zero _ _ _ List.not_mem_nil]
  have hs : gather_S40960x2048_S4x8192x1_S4x8192x2048_2_0_n_n_0_2_12048.siIdx (ix3 k s j) ⟨List.idxOf (0 : Fin 2) gather_S40960x2048_S4x8192x1_S4x8192x2048_2_0_n_n_0_2_12048.startIndexMap,
      List.idxOf_lt_length_iff.2 (List.mem_singleton.mpr rfl)⟩ = ix3 k s 0 := by
    funext b; refine Fin.ext ?_
    match b with
    | ⟨0, _⟩ => rfl
    | ⟨1, _⟩ => rfl
    | ⟨2, _⟩ => rfl
  match a with
  | ⟨0, _⟩ =>
    have s0 : gather_S40960x2048_S4x8192x1_S4x8192x2048_2_0_n_n_0_2_12048.start (ix3 k s j) idx 0 = e.val := by
      unfold GatherDims.start
      rw [dif_pos (show (0 : Fin 2) ∈ gather_S40960x2048_S4x8192x1_S4x8192x2048_2_0_n_n_0_2_12048.startIndexMap from List.mem_singleton.mpr rfl), hs, he]
      show min e.val (40960 - 1) = e.val
      have := e.isLt
      omega
    have o0 : gather_S40960x2048_S4x8192x1_S4x8192x2048_2_0_n_n_0_2_12048.offCoord (ix3 k s j) 0 = 0 :=
      GatherDims.offCoord_eq_zero _ _ _ (fun h => ((GatherDims.mem_sKept _ _).mp h).1 (List.mem_singleton.mpr rfl))
    show gather_S40960x2048_S4x8192x1_S4x8192x2048_2_0_n_n_0_2_12048.start (ix3 k s j) idx 0 + 0 + gather_S40960x2048_S4x8192x1_S4x8192x2048_2_0_n_n_0_2_12048.offCoord (ix3 k s j) 0 = e.val
    rw [s0, o0]
    rfl
  | ⟨1, _⟩ =>
    have s1 : gather_S40960x2048_S4x8192x1_S4x8192x2048_2_0_n_n_0_2_12048.start (ix3 k s j) idx 1 = 0 := by
      unfold GatherDims.start
      exact dif_neg (by decide)
    show gather_S40960x2048_S4x8192x1_S4x8192x2048_2_0_n_n_0_2_12048.start (ix3 k s j) idx 1 + 0 + gather_S40960x2048_S4x8192x1_S4x8192x2048_2_0_n_n_0_2_12048.offCoord (ix3 k s j) 1 = _
    rw [s1]
    exact (Nat.zero_add _).trans rfl

variable (y : (⟨S40960x2048, .f32⟩ : BufTy).Contents (Elt Ideal)) (d : (⟨S4x8192, .i32⟩ : BufTy).Contents (Elt Ideal))
  (q : (⟨S4x8192, .f32⟩ : BufTy).Contents (Elt Ideal)) (x : (⟨S8192x2048, .f32⟩ : BufTy).Contents (Elt Ideal))
  (g b : (⟨S2048, .f32⟩ : BufTy).Contents (Elt Ideal))

/-- A position that is not negative is not wrapped. -/
theorem wrapped (k : Fin 4) (s : Fin 8192) (e : Fin 40960) (he : BitVec.toInt (n := 32) (d (ix2 k s)) = e.val) :
    BitVec.toInt (n := 32) (val_main_v5 (F := Ideal) d (ix3 k s 0)) = e.val := by
  have h : val_main_v5 (F := Ideal) d (ix3 k s 0) = Scalar.select (IntOp.cmpi .slt (d (ix2 k s)) 0#32) (IntOp.addi (d (ix2 k s)) 40960#32) (d (ix2 k s)) := by
    pointwise [val_main_v5, val_main_v4, val_main_v3, val_main_v2, val_main_v1, val_main_v0, val_main_c, val_main_c_0]
  have hs : BitVec.slt (n := 32) (d (ix2 k s)) 0#32 = false := by
    rw [BitVec.slt_eq_decide]
    exact decide_eq_false (by rw [he]; show ¬ ((e.val : Int) < 0); omega)
  rw [h]
  show BitVec.toInt (n := 32) (Scalar.select (BitVec.ofBool (BitVec.slt (n := 32) (d (ix2 k s)) 0#32)) _ _) = _
  rw [hs]
  exact he

/-- The weighed sum of a token's picks, entry by entry. -/
theorem picks (s : Fin 8192) (j : Fin 2048) (e : Fin 4 → Fin 40960) (he : ∀ k, BitVec.toInt (n := 32) (d (ix2 k s)) = (e k).val) :
    val_main_v10 (F := Ideal) y d q (ix2 s j) = ∑ k : Fin 4, y (ix2 (e k) j) * q (ix2 k s) := by
  have a : ∀ k, idx_main_v10 (ix2 s j) k = ix3 k s j := fun k => eq_ix3 _
  have hy : ∀ k, val_main_v6 (F := Ideal) y d (ix3 k s j) = y (ix2 (e k) j) := fun k => rows_at y _ k s j (e k) (wrapped d k s (e k) (he k))
  have hq : ∀ k, val_main_v8 (F := Ideal) q (ix3 k s j) = q (ix2 k s) := fun k => by
    rw [val_main_v8_apply, val_main_v7_apply]
    exact congrArg q (eq_ix2 _)
  rw [val_main_v10_apply, val_main_cst_apply]
  show Ideal.ofBits .f32 0x00000000#32 + _ = _
  rw [Ideal.ofBits_zero_f32, zero_add]
  refine Finset.sum_congr rfl fun k _ => ?_
  rw [a, val_main_v9_apply, hy, hq]
  rfl

/-- The reference's result, entry by entry. -/
theorem result (s : Fin 8192) (j : Fin 2048) (e : Fin 4 → Fin 40960) (he : ∀ k, BitVec.toInt (n := 32) (d (ix2 k s)) = (e k).val) :
    val_main_v37 (F := Ideal) y d q x g b (ix2 s j)
      = Rows.onto (fun i => x (ix2 s i)) (fun i => ∑ k : Fin 4, y (ix2 (e k) i) * q (ix2 k s)) (fun i => g (ix1 i)) (fun i => b (ix1 i)) j := by
  have h : ∀ i : Fin 2048, val_main_v13 (F := Ideal) y d q x (ix2 s i)
      = Ideal.ofBits .f32 0x3FB504F3#32 * x (ix2 s i) + ∑ k : Fin 4, y (ix2 (e k) i) * q (ix2 k s) := fun i => by
    rw [val_main_v13_apply, picks y d q s i e he]
    rfl
  refine Eq.trans ?_ (congrArg (fun f => Rows.norm f (fun i => g (ix1 i)) (fun i => b (ix1 i)) j) (funext h))
  unfold val_main_v37 val_main_v34 val_main_v31 val_main_v30 val_main_v29 val_main_v28 val_main_v26 val_main_v25 val_main_v24 val_main_v22 val_main_v21
    val_main_v20 val_main_v19 val_main_v18 val_main_v17 val_main_v15 val_main_v14
  generalize val_main_v13 (F := Ideal) y d q x = z
  pointwise [val_main_v36, val_main_v35, val_main_v33, val_main_v32, val_main_v27, val_main_v23, val_main_v16, val_main_cst_2, val_main_cst_3, val_main_cst_4, val_main_cst_5, val_main_cst_6]
  rfl

end Cert.CombineRefIdeal.Entry

namespace Cert.CombineIdeal.Entry
open Cert.CombineIdeal Cert.CombineIdeal.Gen Cert.Proof.CombineIdealRun
open Cert.KernelIdeal.Attn (normed normed_at row_at)

/-- A slab of the picked rows, entry by entry. -/
theorem slab_at (w : Vec Ideal S4x256x2048 .f32) (k : Fin 4) (h) (r : Fin 256) (j : Fin 2048) :
    View.ld w (Rect.unit (s := S4x256x2048) ![k.val, 0, 0] S1x256x2048.size h) (ix3 0 r j) = w (ix3 k r j) := by
  refine congrArg w (funext fun a => Fin.ext ?_)
  match a with
  | ⟨0, _⟩ => show k.val + 1 * (0 : Fin 1).val = k.val; show k.val + 1 * 0 = k.val; omega
  | ⟨1, _⟩ => show 0 + 1 * r.val = r.val; omega
  | ⟨2, _⟩ => show 0 + 1 * j.val = j.val; omega

/-- A column of the gates, entry by entry. -/
theorem gate_col (q : Vec Ideal S256x4 .f32) (k : Fin 4) (h) (r : Fin 256) :
    View.ld q (Rect.unit (s := S256x4) ![0, k.val] S256x1.size h) (ix2 r 0) = q (ix2 r k) := by
  refine congrArg q (funext fun a => Fin.ext ?_)
  match a with
  | ⟨0, _⟩ => show 0 + 1 * r.val = r.val; omega
  | ⟨1, _⟩ => show k.val + 1 * (0 : Fin 1).val = k.val; show k.val + 1 * 0 = k.val; omega

/-- The weighed sum of four slabs, entry by entry. -/
theorem sum_at (w0 w1 w2 w3 : Vec Ideal S1x256x2048 .f32) (q0 q1 q2 q3 : Vec Ideal S256x1 .f32) (r : Fin 256) (j : Fin 2048) :
    k0_pay2 (F := Ideal) w0 q0 w1 q1 w2 q2 w3 q3 (ix2 r j)
      = w0 (ix3 0 r j) * q0 (ix2 r 0) + w1 (ix3 0 r j) * q1 (ix2 r 0) + w2 (ix3 0 r j) * q2 (ix2 r 0) + w3 (ix3 0 r j) * q3 (ix2 r 0) := by
  pointwise [k0_pay2]

/-- What the body stores, entry by entry, from the picked rows and the blocks it reads. -/
theorem stored_at (w : Vec Ideal S4x256x2048 .f32) (q : Vec Ideal S256x4 .f32) (x : Vec Ideal S256x2048 .f32) (g b : Vec Ideal S1x2048 .f32)
    (r : Fin 256) (j : Fin 2048) :
    outOf w q x g b (ix2 r j)
      = Rows.onto (fun i => x (ix2 r i)) (fun i => ∑ k : Fin 4, w (ix3 k r i) * q (ix2 r k)) (fun i => g (ix2 0 i)) (fun i => b (ix2 0 i)) j := by
  unfold outOf
  rw [View.canon_unit_zero Rows.zeros2]
  simp only [View.ld_unit_zero (S := S256x2048) Rows.zeros2, View.ld_unit_zero (S := S1x2048) Rows.zeros2]
  generalize hp : k0_pay2 (F := Ideal) (View.ld w rS0) (View.ld q rG0) (View.ld w rS1) (View.ld q rG1) (View.ld w rS2) (View.ld q rG2) (View.ld w rS3) (View.ld q rG3) = p
  have e : ∀ i, p (ix2 r i) = ∑ k : Fin 4, w (ix3 k r i) * q (ix2 r k) := fun i => by
    rw [← hp, sum_at, Fin.sum_univ_four]
    exact congrArg₂ (· + ·) (congrArg₂ (· + ·) (congrArg₂ (· + ·) (congrArg₂ (· * ·) (slab_at w 0 _ r i) (gate_col q 0 _ r))
      (congrArg₂ (· * ·) (slab_at w 1 _ r i) (gate_col q 1 _ r))) (congrArg₂ (· * ·) (slab_at w 2 _ r i) (gate_col q 2 _ r)))
      (congrArg₂ (· * ·) (slab_at w 3 _ r i) (gate_col q 3 _ r))
  refine Eq.trans (b := normed (addf (mulf (broadcast S256x2048 (Scalar.ofBits (F := Ideal) .f32 0x3FB504F3#32)) x) p) g b (ix2 r j)) rfl ?_
  rw [normed_at]
  exact congrArg (fun f => Rows.norm f _ _ j) (funext fun i => congrArg (Ideal.ofBits .f32 0x3FB504F3#32 * x (ix2 r i) + ·) (e i))

variable (m : (ℓ : Loc nD τ sig) → Buf (Elt Ideal) ℓ) (ρ : Dev nD → PrngReg)

/-- The reference's result at the kernel's arguments. -/
abbrev want (c : Dev nD) : Buf (Elt Ideal) ((c : Thread nD τ).loc main_v3) :=
  Cert.CombineRefIdeal.Read.val_main_v37 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The index maps: point `t` is token block `t`, the gain and the offset whole. -/
theorem idx : ∀ t : Fin cfg0.N,
    (win0_0.index t 0 = 0 ∧ win0_0.index t 1 = t.val)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0) :=
  (by decide +kernel : ∀ t : Fin grid0.N, _)

/-- The gates, token by token. -/
theorem V_q (c : Dev nD) : V m c main_v0 = transpose S8192x4 [1, 0] (m ((c : Thread nD τ).loc main_arg2)) transposes_S4x8192_S8192x4_1_0 := by
  show StableHlo.after hostOps0 _ _ = _
  unfold hostOps0
  after_results
/-- The gain is the argument as one row. -/
theorem V_g (c : Dev nD) : V m c main_v1 = shapeCast S1x2048 (m ((c : Thread nD τ).loc main_arg4)) shapeCasts_S2048_S1x2048 := by
  show StableHlo.after hostOps0 _ _ = _
  unfold hostOps0
  after_results
  rfl
/-- So is the offset. -/
theorem V_b (c : Dev nD) : V m c main_v2 = shapeCast S1x2048 (m ((c : Thread nD τ).loc main_arg5)) shapeCasts_S2048_S1x2048 := by
  show StableHlo.after hostOps0 _ _ = _
  unfold hostOps0
  after_results
  rfl

/-- The transposed gates, entry by entry. -/
theorem turned (z : FVec Ideal S4x8192 .f32) (s : Fin 8192) (k : Fin 4) :
    transpose S8192x4 [1, 0] z transposes_S4x8192_S8192x4_1_0 (ix2 s k) = z (ix2 k s) := by
  pointwise

/-- The positions that point `t` reads. -/
theorem d_blk (c : Dev nD) (t : Fin cfg0.N) (k : Fin 4) (r : Fin 256) (s : Fin 8192) (hs : s.val = t.val * 256 + r.val) :
    iblk c m (0 : Fin 6) t (ix2 k r) = m ((c : Thread nD τ).loc main_arg1) (ix2 k s) := by
  show V m c main_arg1 ((win0_0.blk t).view.emb (ix2 k r)) = _
  rw [V_eq c m main_arg1 (by decide) (by decide) (by decide)]
  refine congrArg _ (funext fun a => Fin.ext ?_)
  match a with
  | ⟨0, _⟩ => show win0_0.index t 0 * 4 + 1 * k.val = k.val; rw [(idx t).1.1]; omega
  | ⟨1, _⟩ => show win0_0.index t 1 * 256 + 1 * r.val = s.val; rw [(idx t).1.2]; omega

/-- The gates that point `t` reads. -/
theorem q_blk (c : Dev nD) (t : Fin cfg0.N) (r : Fin 256) (k : Fin 4) (s : Fin 8192) (hs : s.val = t.val * 256 + r.val) :
    iblk c m (1 : Fin 6) t (ix2 r k) = m ((c : Thread nD τ).loc main_arg2) (ix2 k s) := by
  refine Eq.trans ?_ ((congrFun (V_q m c) (ix2 s k)).trans (turned _ s k))
  show V m c main_v0 ((win0_1.blk t).view.emb (ix2 r k)) = _
  refine congrArg _ (funext fun a => Fin.ext ?_)
  match a with
  | ⟨0, _⟩ => show win0_1.index t 0 * 256 + 1 * r.val = s.val; rw [(idx t).2.1.1]; omega
  | ⟨1, _⟩ => show win0_1.index t 1 * 4 + 1 * k.val = k.val; rw [(idx t).2.1.2]; omega

/-- The residual's rows that point `t` reads. -/
theorem x_blk (c : Dev nD) (t : Fin cfg0.N) (r : Fin 256) (i : Fin 2048) (s : Fin 8192) (hs : s.val = t.val * 256 + r.val) :
    iblk c m (2 : Fin 6) t (ix2 r i) = m ((c : Thread nD τ).loc main_arg3) (ix2 s i) := by
  show V m c main_arg3 ((win0_2.blk t).view.emb (ix2 r i)) = _
  rw [V_eq c m main_arg3 (by decide) (by decide) (by decide)]
  refine congrArg _ (funext fun a => Fin.ext ?_)
  match a with
  | ⟨0, _⟩ => show win0_2.index t 0 * 256 + 1 * r.val = s.val; rw [(idx t).2.2.1.1]; omega
  | ⟨1, _⟩ => show win0_2.index t 1 * 2048 + 1 * i.val = i.val; rw [(idx t).2.2.1.2]; omega

/-- The gain, whole at every point. -/
theorem g_blk (c : Dev nD) (t : Fin cfg0.N) (j : Fin 2048) : iblk c m (3 : Fin 6) t (ix2 0 j) = m ((c : Thread nD τ).loc main_arg4) (ix1 j) := by
  refine Eq.trans ?_ ((congrFun (V_g m c) (ix2 0 j)).trans (row_at _ j))
  show V m c main_v1 ((win0_3.blk t).view.emb (ix2 0 j)) = _
  refine congrArg _ (funext fun a => Fin.ext ?_)
  match a with
  | ⟨0, _⟩ => show win0_3.index t 0 * 1 + 1 * (0 : Fin 1).val = (0 : Fin 1).val; rw [(idx t).2.2.2.1.1]; omega
  | ⟨1, _⟩ => show win0_3.index t 1 * 2048 + 1 * j.val = j.val; rw [(idx t).2.2.2.1.2]; omega

/-- The offset, whole at every point. -/
theorem b_blk (c : Dev nD) (t : Fin cfg0.N) (j : Fin 2048) : iblk c m (4 : Fin 6) t (ix2 0 j) = m ((c : Thread nD τ).loc main_arg5) (ix1 j) := by
  refine Eq.trans ?_ ((congrFun (V_b m c) (ix2 0 j)).trans (row_at _ j))
  show V m c main_v2 ((win0_4.blk t).view.emb (ix2 0 j)) = _
  refine congrArg _ (funext fun a => Fin.ext ?_)
  match a with
  | ⟨0, _⟩ => show win0_4.index t 0 * 1 + 1 * (0 : Fin 1).val = (0 : Fin 1).val; rw [(idx t).2.2.2.2.1.1]; omega
  | ⟨1, _⟩ => show win0_4.index t 1 * 2048 + 1 * j.val = j.val; rw [(idx t).2.2.2.2.1.2]; omega

/-- What point `t` writes back is block `t` of the reference's result. -/
theorem flushed_eq (hR : InRange m) (c : Dev nD) (t : Fin cfg0.N) :
    (dats m 0 c).flushed (5 : Fin 6) t = (win0_5.blk t).view.read (Elt Ideal) (want m c) := by
  have ht : t.val < 32 := t.isLt.trans_eq N_0
  show (cfg0.win 5).cut (cfg0.grid.coords t) ((dats m 0 c).after (5 : Fin 6) t) = _
  rw [after_5]
  funext y
  obtain ⟨r, j, rfl⟩ : ∃ (r : Fin 256) (j : Fin 2048), y = ix2 r j := by
    have hy : ∀ z : S256x2048.Idx, ∃ (r : Fin 256) (j : Fin 2048), z = ix2 r j := fun z => ⟨z 0, z 1, eq_ix2 z⟩
    exact hy y
  have hr := r.isLt
  obtain ⟨s, hs⟩ : ∃ s : Fin 8192, s.val = t.val * 256 + r.val := ⟨⟨t.val * 256 + r.val, by omega⟩, rfl⟩
  show outAt c m t (ix2 r j) = want m c ((win0_5.blk t).view.emb (ix2 r j))
  have e : (win0_5.blk t).view.emb (ix2 r j) = ix2 s j := by
    refine funext fun a => Fin.ext ?_
    match a with
    | ⟨0, _⟩ => show win0_5.index t 0 * 256 + 1 * r.val = s.val; rw [(idx t).2.2.2.2.2.1]; omega
    | ⟨1, _⟩ => show win0_5.index t 1 * 2048 + 1 * j.val = j.val; rw [(idx t).2.2.2.2.2.2]; omega
  have hi : ∀ k : Fin 4, BitVec.toInt (n := 32) (m ((c : Thread nD τ).loc main_arg1) (ix2 k s)) = BitVec.toNat (w := 32) (m ((c : Thread nD τ).loc main_arg1) (ix2 k s)) := fun k => by
    have hk : BitVec.toNat (w := 32) (m ((c : Thread nD τ).loc main_arg1) (ix2 k s)) < 40960 := hR c (ix2 k s)
    rw [BitVec.toInt_eq_toNat_of_lt (by omega)]
  unfold want
  rw [e, Cert.CombineRefIdeal.Entry.result _ _ _ _ _ _ s j (fun k => ⟨_, hR c (ix2 k s)⟩) hi]
  unfold outAt
  rw [stored_at]
  have hw : ∀ (k : Fin 4) (i : Fin 2048), picked (iblk c m (0 : Fin 6) t) (V m c main_arg0) (ix3 k r i)
      = m ((c : Thread nD τ).loc main_arg0) (ix2 ⟨_, hR c (ix2 k s)⟩ i) := fun k i => by
    rw [V_eq c m main_arg0 (by decide) (by decide) (by decide)]
    refine congrArg (m ((c : Thread nD τ).loc main_arg0)) (funext fun a => Fin.ext ?_)
    match a with
    | ⟨0, _⟩ =>
      show BitVec.toNat (w := 32) (iblk c m (0 : Fin 6) t (ix2 k r)) % 40960 = BitVec.toNat (w := 32) (m ((c : Thread nD τ).loc main_arg1) (ix2 k s))
      rw [d_blk m c t k r s hs]
      exact Nat.mod_eq_of_lt (hR c (ix2 k s))
    | ⟨1, _⟩ => rfl
  have hq : ∀ k : Fin 4, iblk c m (1 : Fin 6) t (ix2 r k) = m ((c : Thread nD τ).loc main_arg2) (ix2 k s) := fun k => q_blk m c t r k s hs
  have hx : (fun i : Fin 2048 => iblk c m (2 : Fin 6) t (ix2 r i)) = _ := funext fun i => x_blk m c t r i s hs
  have hg : (fun i : Fin 2048 => iblk c m (3 : Fin 6) t (ix2 0 i)) = _ := funext fun i => g_blk m c t i
  have hb : (fun i : Fin 2048 => iblk c m (4 : Fin 6) t (ix2 0 i)) = _ := funext fun i => b_blk m c t i
  rw [hx, hg, hb]
  exact congrArg (fun f => Rows.onto _ f _ _ j) (funext fun i => Finset.sum_congr rfl fun k _ => congrArg₂ (· * ·) (hw k i) (hq k))

/-- The result array's blocks tile it. -/
theorem cover (i : S8192x2048.Idx) : ∃ t : Fin cfg0.N, (cfg0.win 5).flush t = true ∧ i ∈ ((cfg0.win 5).blk t).view.set := by
  have h0 : (i 0 : Nat) < 8192 := (i 0).isLt
  have h1 : (i 1 : Nat) < 2048 := (i 1).isLt
  have hN : cfg0.N = 32 := N_0
  refine ⟨⟨(i 0 : Nat) / 256, by omega⟩, flush0_5 _, ?_⟩
  generalize ht : (⟨(i 0 : Nat) / 256, by omega⟩ : Fin cfg0.N) = t
  have hv : t.val = (i 0 : Nat) / 256 := by rw [← ht]
  show i ∈ ((View.whole main_v3).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + 256
              rw [(idx t).2.2.2.2.2.1]; omega
  | ⟨1, _⟩ => show win0_5.index t 1 * 2048 ≤ (i 1 : Nat) ∧ (i 1 : Nat) < win0_5.index t 1 * 2048 + 2048
              rw [(idx t).2.2.2.2.2.2]; omega

/-- So the result array ends holding the reference's result. -/
theorem final (hR : InRange m) (c : Dev nD) : (dats m 0 c).arrAt (5 : Fin 6) cfg0.N = want m c :=
  (dats m 0 c).arrAt_eq_of_cover (5 : Fin 6) (want m c) (fun t _ => flushed_eq m hR c t) cover

end Cert.CombineIdeal.Entry

namespace Cert.Proof.Combine

/-- The kernel leaves its arguments as they were, when the positions are in range. -/
theorem frame_p : Cert.quiescent_Combine := fun m ρ h =>
  (θ_run Cert.Combine.defs _ _).mono (fun _ h => ⟨fun c => (h.1 c).2, h.2⟩)
    (CombineRun.run_all (F := Bits) m ρ fun c => Cert.Pre_positions_in_range.Entry.bound _ _ _ _ _ _ (h c))
/-- So does its idealization. -/
theorem frame_pi : Cert.quiescent_CombineIdeal := fun m ρ h =>
  (θ_run Cert.CombineIdeal.defs _ _).mono (fun _ h => ⟨fun c => (h.1 c).2, h.2⟩)
    (CombineIdealRun.run_all (F := Ideal) m ρ fun c => Cert.Pre_positions_in_range.Entry.bound _ _ _ _ _ _ (h c))
/-- So does the reference, whose run is read at its arguments; it declares no semaphore. -/
theorem frame_ri : Cert.quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)
/-- The idealization rewrites nothing but the number type. -/
theorem preserves : Cert.preserves_Combine_CombineIdeal := trivial

/-- From arguments that agree, with the positions in range, the kernel and the reference leave the same array. -/
theorem algebraic : Cert.algebraic_CombineIdeal_CombineRefIdeal := by
  intro m ρ m' ρ' hpre hagree
  have hR : CombineIdealRun.InRange m := fun c => Cert.Pre_positions_in_range.Entry.bound _ _ _ _ _ _ (hpre c)
  refine ⟨fun c => Cert.CombineIdeal.Entry.want m c, ?_, ?_⟩
  · exact (θ_run Cert.CombineIdeal.defs _ _).mono (fun _ h c => ⟨(h.1 c).1.trans (Cert.CombineIdeal.Entry.final m hR c), (h.1 c).2⟩)
      (CombineIdealRun.run_all (F := Ideal) m ρ hR)
  · refine (θ_run Cert.CombineRefIdeal.defs _ _).mono (fun _ h c => ⟨(h c).1.trans ?_, (h c).2⟩)
      (Cert.CombineRefIdeal.Value.run (F := Ideal) m' ρ')
    rw [Cert.CombineRefIdeal.Read.val_main_v37_eq, (hagree c).1, (hagree c).2.1, (hagree c).2.2.1, (hagree c).2.2.2.1, (hagree c).2.2.2.2.1, (hagree c).2.2.2.2.2]

end Cert.Proof.Combine

end
-- ==== Proof.lean ====
module

public import proofs.«01_k».proof.Defs
public import proofs.«01_k».proof.Proof.Attn
public import proofs.«01_k».proof.Proof.InEven
public import proofs.«01_k».proof.Proof.InOdd
public import proofs.«01_k».proof.Proof.InMem
public import proofs.«01_k».proof.Proof.OutEven
public import proofs.«01_k».proof.Proof.OutOdd
public import proofs.«01_k».proof.Proof.Experts
public import proofs.«01_k».proof.Proof.Combine

@[expose] public section

noncomputable section

namespace Cert.Proof

/-- Everything the certificate claims, each part proved in its own module. -/
theorem claim : Cert.Claim := ⟨Cert.Kernel.Gen.facts, Cert.KernelIdeal.Gen.facts, Cert.ReferenceIdeal.Gen.facts, Cert.InEven.Gen.facts, Cert.InEvenIdeal.Gen.facts, Cert.InEvenRefIdeal.Gen.facts, Cert.InOdd.Gen.facts, Cert.InOddIdeal.Gen.facts, Cert.InOddRefIdeal.Gen.facts, Cert.InMem.Gen.facts, Cert.InMemIdeal.Gen.facts, Cert.InMemRefIdeal.Gen.facts, Cert.OutEven.Gen.facts, Cert.OutEvenIdeal.Gen.facts, Cert.OutEvenRefIdeal.Gen.facts, Cert.OutOdd.Gen.facts, Cert.OutOddIdeal.Gen.facts, Cert.OutOddRefIdeal.Gen.facts, Cert.Experts.Gen.facts, Cert.ExpertsIdeal.Gen.facts, Cert.ExpertsRefIdeal.Gen.facts, Cert.Combine.Gen.facts, Cert.CombineIdeal.Gen.facts, Cert.CombineRefIdeal.Gen.facts, Cert.Pre_experts_in_range.Gen.facts, Cert.Pre_positions_in_range.Gen.facts,
  Attn.frame_p,
  Attn.frame_pi,
  Attn.frame_ri,
  InEven.frame_p,
  InEven.frame_pi,
  InEven.frame_ri,
  InOdd.frame_p,
  InOdd.frame_pi,
  InOdd.frame_ri,
  InMem.frame_p,
  InMem.frame_pi,
  InMem.frame_ri,
  OutEven.frame_p,
  OutEven.frame_pi,
  OutEven.frame_ri,
  OutOdd.frame_p,
  OutOdd.frame_pi,
  OutOdd.frame_ri,
  Experts.frame_p,
  Experts.frame_pi,
  Experts.frame_ri,
  Combine.frame_p,
  Combine.frame_pi,
  Combine.frame_ri,
  Attn.preserves,
  Attn.algebraic,
  InEven.preserves,
  InEven.algebraic,
  InOdd.preserves,
  InOdd.algebraic,
  InMem.preserves,
  InMem.algebraic,
  OutEven.preserves,
  OutEven.algebraic,
  OutOdd.preserves,
  OutOdd.algebraic,
  Experts.preserves,
  Experts.algebraic,
  Combine.preserves,
  Combine.algebraic⟩

end Cert.Proof

end
